-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_lbp_inputs [hPre_lbp_inputs : Cert.Pre_lbp_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_lbp_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_lbp_inputs [hPre_lbp_inputs : Cert.Pre_lbp_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_lbp_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_lbp_inputs [hKernelIdeal : Cert.KernelIdeal.Facts] [hPre_lbp_inputs : Cert.Pre_lbp_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_lbp_inputs m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_lbp_inputs [hReferenceIdeal : Cert.ReferenceIdeal.Facts] [hPre_lbp_inputs : Cert.Pre_lbp_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_lbp_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_lbp_inputs [hKernelIdeal : Cert.KernelIdeal.Facts] [hReferenceIdeal : Cert.ReferenceIdeal.Facts] [hPre_lbp_inputs : Cert.Pre_lbp_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_lbp_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v108) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_lbp_inputs : Cert.Pre_lbp_inputs.Facts),
    quiescent_Kernel (hKernel := hKernel)
    ∧ quiescent_KernelIdeal (hKernelIdeal := hKernelIdeal)
    ∧ quiescent_KernelIdeal_pre_lbp_inputs (hKernelIdeal := hKernelIdeal) (hPre_lbp_inputs := hPre_lbp_inputs)
    ∧ quiescent_ReferenceIdeal (hReferenceIdeal := hReferenceIdeal)
    ∧ quiescent_ReferenceIdeal_pre_lbp_inputs (hReferenceIdeal := hReferenceIdeal) (hPre_lbp_inputs := hPre_lbp_inputs)
    ∧ preserves_Kernel_KernelIdeal
    ∧ algebraic_KernelIdeal_ReferenceIdeal_pre_lbp_inputs (hKernelIdeal := hKernelIdeal) (hReferenceIdeal := hReferenceIdeal) (hPre_lbp_inputs := hPre_lbp_inputs)
-- ==== Pre_lbp_inputs.lean ====
abbrev S8x3x512x512 : Shape := ⟨4, ![8, 3, 512, 512]⟩
abbrev S8x1x3x3 : Shape := ⟨4, ![8, 1, 3, 3]⟩
abbrev S1x8x1x1 : Shape := ⟨4, ![1, 8, 1, 1]⟩
abbrev S_ : Shape := ⟨0, ![]⟩

class Facts : Prop where
  bcast_S_S8x3x512x512 : S_.BroadcastsInDim S8x3x512x512 (![] : Fin 0 → Fin S8x3x512x512.rank)
  reducesTo_S8x3x512x512_S_d0_1_2_3 : S8x3x512x512.ReducesTo [0, 1, 2, 3] S_
  h_S_ : 0 < S_.numel
  reducesTo_S8x1x3x3_S_d0_1_2_3 : S8x1x3x3.ReducesTo [0, 1, 2, 3] S_
  reducesTo_S1x8x1x1_S_d0_1_2_3 : S1x8x1x1.ReducesTo [0, 1, 2, 3] S_

variable [Facts]

noncomputable abbrev lit0 : Fin 72 → BitVec 32 := fun
  | 0 => 0x00000000#32 | 1 => 0x00000000#32 | 2 => 0x3F800000#32 | 3 => 0x00000000#32 | 4 => 0xBF800000#32 | 5 => 0x00000000#32 | 6 => 0x00000000#32 | 7 => 0x00000000#32
  | 8 => 0x00000000#32 | 9 => 0x00000000#32 | 10 => 0x00000000#32 | 11 => 0x00000000#32 | 12 => 0x00000000#32 | 13 => 0xBF800000#32 | 14 => 0x3F800000#32 | 15 => 0x00000000#32
  | 16 => 0x00000000#32 | 17 => 0x00000000#32 | 18 => 0x00000000#32 | 19 => 0x00000000#32 | 20 => 0x00000000#32 | 21 => 0x00000000#32 | 22 => 0xBF800000#32 | 23 => 0x00000000#32
  | 24 => 0x00000000#32 | 25 => 0x00000000#32 | 26 => 0x3F800000#32 | 27 => 0x00000000#32 | 28 => 0x00000000#32 | 29 => 0x00000000#32 | 30 => 0x00000000#32 | 31 => 0xBF800000#32
  | 32 => 0x00000000#32 | 33 => 0x00000000#32 | 34 => 0x3F800000#32 | 35 => 0x00000000#32 | 36 => 0x00000000#32 | 37 => 0x00000000#32 | 38 => 0x00000000#32 | 39 => 0x00000000#32
  | 40 => 0xBF800000#32 | 41 => 0x00000000#32 | 42 => 0x3F800000#32 | 43 => 0x00000000#32 | 44 => 0x00000000#32 | 45 => 0x00000000#32 | 46 => 0x00000000#32 | 47 => 0x00000000#32
  | 48 => 0x3F800000#32 | 49 => 0xBF800000#32 | 50 => 0x00000000#32 | 51 => 0x00000000#32 | 52 => 0x00000000#32 | 53 => 0x00000000#32 | 54 => 0x3F800000#32 | 55 => 0x00000000#32
  | 56 => 0x00000000#32 | 57 => 0x00000000#32 | 58 => 0xBF800000#32 | 59 => 0x00000000#32 | 60 => 0x00000000#32 | 61 => 0x00000000#32 | 62 => 0x00000000#32 | 63 => 0x00000000#32
  | 64 => 0x3F800000#32 | 65 => 0x00000000#32 | 66 => 0x00000000#32 | 67 => 0xBF800000#32 | 68 => 0x00000000#32 | 69 => 0x00000000#32 | 70 => 0x00000000#32 | 71 => 0x00000000#32
  | _ => 0#32

noncomputable abbrev lit1 : Fin 8 → BitVec 32 := fun
  | 0 => 0x3F800000#32 | 1 => 0x40000000#32 | 2 => 0x40800000#32 | 3 => 0x41000000#32 | 4 => 0x41800000#32 | 5 => 0x42000000#32 | 6 => 0x42800000#32 | 7 => 0x43000000#32
  | _ => 0#32

def fn {F : FTy → Type} [FloatOps F] (main_arg0 : FVec F S8x3x512x512 .f32) (main_arg1 : FVec F S8x1x3x3 .f32) (main_arg2 : FVec F S1x8x1x1 .f32) : IVec S_ 1 :=
  let main_cst : FVec F S8x1x3x3 .f32 := fun i => FloatOps.ofBits .f32 (lit0 (S8x1x3x3.rowMajor i))
  let main_cst_0 : FVec F S1x8x1x1 .f32 := fun i => FloatOps.ofBits .f32 (lit1 (S1x8x1x1.rowMajor i))
  let main_v0 : FVec F S8x3x512x512 .f32 := Host.absf main_arg0
  let main_cst_1 : FVec F S_ .f32 := constant S_ .f32 0x7F800000#32
  let main_v1 : FVec F S8x3x512x512 .f32 := broadcastInDim S8x3x512x512 ![] bcast_S_S8x3x512x512 main_cst_1
  let main_v2 : IVec S8x3x512x512 1 := cmpf .olt main_v0 main_v1
  let main_c : IVec S_ 1 := constantI S_ 1 1#1
  let main_v3 : IVec S_ 1 := (fun x v => Host.reduce IntOp.andi x v reducesTo_S8x3x512x512_S_d0_1_2_3 h_S_) main_v2 main_c
  let main_v4 : IVec S8x1x3x3 1 := cmpf .oeq main_arg1 main_cst
  let main_c_2 : IVec S_ 1 := constantI S_ 1 1#1
  let main_v5 : IVec S_ 1 := (fun x v => Host.reduce IntOp.andi x v reducesTo_S8x1x3x3_S_d0_1_2_3 h_S_) main_v4 main_c_2
  let main_v6 : IVec S_ 1 := andi main_v3 main_v5
  let main_v7 : IVec S1x8x1x1 1 := cmpf .oeq main_arg2 main_cst_0
  let main_c_3 : IVec S_ 1 := constantI S_ 1 1#1
  let main_v8 : IVec S_ 1 := (fun x v => Host.reduce IntOp.andi x v reducesTo_S1x8x1x1_S_d0_1_2_3 h_S_) main_v7 main_c_3
  let main_v9 : IVec S_ 1 := andi main_v6 main_v8
  main_v9
-- ==== Kernel.lean ====
abbrev S8x3x512x512 : Shape := ⟨4, ![8, 3, 512, 512]⟩
abbrev S8x1x3x3 : Shape := ⟨4, ![8, 1, 3, 3]⟩
abbrev S1x8x1x1 : Shape := ⟨4, ![1, 8, 1, 1]⟩
abbrev S8x512x512 : Shape := ⟨3, ![8, 512, 512]⟩
abbrev S1x3x512x512 : Shape := ⟨4, ![1, 3, 512, 512]⟩
abbrev S1x512x512 : Shape := ⟨3, ![1, 512, 512]⟩
abbrev S514x514 : Shape := ⟨2, ![514, 514]⟩
abbrev S1x1x512x512 : Shape := ⟨4, ![1, 1, 512, 512]⟩
abbrev S512x512 : Shape := ⟨2, ![512, 512]⟩
abbrev S2097152 : Shape := ⟨1, ![2097152]⟩
abbrev S32x4096 : Shape := ⟨2, ![32, 4096]⟩
abbrev S65536 : Shape := ⟨1, ![65536]⟩
abbrev S4096 : Shape := ⟨1, ![4096]⟩
abbrev S_ : Shape := ⟨0, ![]⟩
abbrev S16 : Shape := ⟨1, ![16]⟩
abbrev S1x4096 : Shape := ⟨2, ![1, 4096]⟩
abbrev S512x256 : Shape := ⟨2, ![512, 256]⟩
abbrev S1x256 : Shape := ⟨2, ![1, 256]⟩
abbrev S256 : Shape := ⟨1, ![256]⟩
abbrev S1x1x256 : Shape := ⟨3, ![1, 1, 256]⟩
abbrev S1 : Shape := ⟨1, ![1]⟩
abbrev S1x1x1 : Shape := ⟨3, ![1, 1, 1]⟩

abbrev nBuf : Table → Nat
  | .hbm => 8
  | .local .tc .vmem => 7
  | .local .scVector .vmem => 2
  | _ => 0

abbrev bufTy : (tb : Table) → Fin (nBuf tb) → BufTy
  | .hbm, ⟨0, _⟩ => ⟨S8x3x512x512, .f32⟩
  | .hbm, ⟨1, _⟩ => ⟨S8x1x3x3, .f32⟩
  | .hbm, ⟨2, _⟩ => ⟨S1x8x1x1, .f32⟩
  | .hbm, ⟨3, _⟩ => ⟨S8x512x512, .i32⟩
  | .hbm, ⟨4, _⟩ => ⟨S2097152, .i32⟩
  | .hbm, ⟨5, _⟩ => ⟨S32x4096, .f32⟩
  | .hbm, ⟨6, _⟩ => ⟨S512x256, .f32⟩
  | .hbm, ⟨7, _⟩ => ⟨S1x256, .f32⟩
  | .local .tc .vmem, ⟨0, _⟩ => ⟨S1x3x512x512, .f32⟩
  | .local .tc .vmem, ⟨1, _⟩ => ⟨S1x3x512x512, .f32⟩
  | .local .tc .vmem, ⟨2, _⟩ => ⟨S1x512x512, .i32⟩
  | .local .tc .vmem, ⟨3, _⟩ => ⟨S1x512x512, .i32⟩
  | .local .tc .vmem, ⟨4, _⟩ => ⟨S514x514, .f32⟩
  | .local .tc .vmem, ⟨5, _⟩ => ⟨S512x256, .f32⟩
  | .local .tc .vmem, ⟨6, _⟩ => ⟨S1x256, .f32⟩
  | .local .scVector .vmem, ⟨0, _⟩ => ⟨S65536, .i32⟩
  | .local .scVector .vmem, ⟨1, _⟩ => ⟨S4096, .f32⟩
  | _, _ => ⟨S8x3x512x512, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 9 → Bool
  | ⟨0, _⟩ => true
  | ⟨1, _⟩ => true
  | ⟨2, _⟩ => true
  | ⟨3, _⟩ => true
  | ⟨4, _⟩ => false
  | ⟨5, _⟩ => false
  | ⟨6, _⟩ => false
  | ⟨7, _⟩ => true
  | ⟨8, _⟩ => true
  | _ => false

abbrev sig : RefSig :=
  ofTables nBuf rfl bufTy 4 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v1_scv : Ref sig .scVector := ⟨.hbm, 4, rfl⟩
abbrev main_v2_scv : Ref sig .scVector := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc2_stg0_0 : Ref sig .tc := ⟨.vmem, 5, rfl⟩
abbrev cc2_stg1_0 : Ref sig .tc := ⟨.vmem, 6, rfl⟩
abbrev cc1_scratch0 : Ref sig .scVector := ⟨.vmem, 0, rfl⟩
abbrev cc1_scratch1 : Ref sig .scVector := ⟨.vmem, 1, rfl⟩
abbrev cc0_sem0_0 : DmaSem sig := 0
abbrev cc0_sem0_1 : DmaSem sig := 1
abbrev cc0_sem1_0 : DmaSem sig := 2
abbrev cc0_sem1_1 : DmaSem sig := 3
abbrev cc2_sem0_0 : DmaSem sig := 7
abbrev cc2_sem1_0 : DmaSem sig := 8
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x3x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c65536_i32 : BitVec 32 := 65536#32
  let v2 : BitVec 32 := Scalar.muli v1 c65536_i32
  ![v2.toNat]
@[reducible] def k1_t1_loop : Scf.Loop 32 :=
  let c0_i32_0 : BitVec 32 := 0#32
  let c256_i32 : BitVec 32 := 256#32
  let v4 : BitVec 32 := Scalar.addi c0_i32_0 c256_i32
  let c1_i32 : BitVec 32 := 1#32
  ⟨c0_i32_0, v4, c1_i32⟩
def k1_off2 (k1_t1 : Fin k1_t1_loop.trips) : Fin 1 → Nat :=
  let c0_i32_0 : BitVec 32 := 0#32
  let c1_i32 : BitVec 32 := 1#32
  let arg7 : BitVec 32 := Scf.iv c0_i32_0 c1_i32 k1_t1
  let c16_i32 : BitVec 32 := 16#32
  let v10 : BitVec 32 := Scalar.muli arg7 c16_i32
  let v11 : Index := Scalar.indexCast v10
  ![v11.toNat]
@[reducible] def k1_t2_loop : Scf.Loop 32 :=
  let c0_i32_5 : BitVec 32 := 0#32
  let c4096_i32 : BitVec 32 := 4096#32
  let v9 : BitVec 32 := Scalar.addi c0_i32_5 c4096_i32
  let c1_i32_6 : BitVec 32 := 1#32
  ⟨c0_i32_5, v9, c1_i32_6⟩
def k1_off3 (k1_t2 : Fin k1_t2_loop.trips) : Fin 1 → Nat :=
  let c0_i32_5 : BitVec 32 := 0#32
  let c1_i32_6 : BitVec 32 := 1#32
  let arg7 : BitVec 32 := Scf.iv c0_i32_5 c1_i32_6 k1_t2
  let c16_i32 : BitVec 32 := 16#32
  let v10 : BitVec 32 := Scalar.muli arg7 c16_i32
  let v11 : Index := Scalar.indexCast v10
  ![v11.toNat]

def k1_chk1 (v13 : IVec S16 32) : Prop :=
  (∀ a x, ((![v13] : Fin 1 → IVec S16 32) a x).toNat < S4096.size a)
theorem k1_idx1_inb : ∀ (v13 : IVec S16 32) (k1_hw1 : k1_chk1 v13), ∀ a x, ((![v13] : Fin 1 → IVec S16 32) a x).toNat < S4096.size a := fun v13 k1_hw1 => k1_hw1
def k1_off4 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_8_r1 : BitVec 32 := 0#32
  ![v1.toNat, 0]
abbrev grid2 : Pipeline.Grid := .none

abbrev stage2_0 : Fin 1 → Memref sig .tc .vmem S512x256 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S1x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S8x3x512x512 : Shape := ⟨4, ![8, 3, 512, 512]⟩
abbrev S8x1x3x3 : Shape := ⟨4, ![8, 1, 3, 3]⟩
abbrev S1x8x1x1 : Shape := ⟨4, ![1, 8, 1, 1]⟩
abbrev S3 : Shape := ⟨1, ![3]⟩
abbrev S1x3x1x1 : Shape := ⟨4, ![1, 3, 1, 1]⟩
abbrev S_ : Shape := ⟨0, ![]⟩
abbrev S8x512x512 : Shape := ⟨3, ![8, 512, 512]⟩
abbrev S8x1x512x512 : Shape := ⟨4, ![8, 1, 512, 512]⟩
abbrev S8x1x514x514 : Shape := ⟨4, ![8, 1, 514, 514]⟩
abbrev S8x8x512x512 : Shape := ⟨4, ![8, 8, 512, 512]⟩
abbrev S8x1x1x1 : Shape := ⟨4, ![8, 1, 1, 1]⟩
abbrev S8 : Shape := ⟨1, ![8]⟩
abbrev S2097152 : Shape := ⟨1, ![2097152]⟩
abbrev S256 : Shape := ⟨1, ![256]⟩
abbrev S2097152x1 : Shape := ⟨2, ![2097152, 1]⟩
abbrev S1x256 : Shape := ⟨2, ![1, 256]⟩
abbrev S1 : Shape := ⟨1, ![1]⟩
abbrev S1x1 : Shape := ⟨2, ![1, 1]⟩

abbrev nBuf : Space → Nat
  | .hbm => 156
  | .vmem => 0
  | .smem => 0
  | _ => 0

abbrev hbmTy0_0 (i : Nat) : BufTy := match i % 128 with
  | 0 => ⟨S8x3x512x512, .f32⟩
  | 1 => ⟨S8x1x3x3, .f32⟩
  | 2 => ⟨S1x8x1x1, .f32⟩
  | 3 => ⟨S3, .f32⟩
  | 4 => ⟨S1x3x1x1, .f32⟩
  | 5 => ⟨S8x3x512x512, .f32⟩
  | 6 => ⟨S8x3x512x512, .f32⟩
  | 7 => ⟨S_, .f32⟩
  | 8 => ⟨S8x512x512, .f32⟩
  | 9 => ⟨S8x1x512x512, .f32⟩
  | 10 => ⟨S_, .i32⟩
  | 11 => ⟨S_, .f32⟩
  | 12 => ⟨S8x1x514x514, .f32⟩
  | 13 => ⟨S_, .f32⟩
  | 14 => ⟨S8x8x512x512, .f32⟩
  | 15 => ⟨S8x1x1x1, .f32⟩
  | 16 => ⟨S8, .f32⟩
  | 17 => ⟨S1x8x1x1, .f32⟩
  | 18 => ⟨S8x1x512x512, .f32⟩
  | 19 => ⟨S8x8x512x512, .f32⟩
  | 20 => ⟨S8x8x512x512, .f32⟩
  | 21 => ⟨S8x8x512x512, .f32⟩
  | 22 => ⟨S8x8x512x512, .f32⟩
  | 23 => ⟨S8x1x1x1, .f32⟩
  | 24 => ⟨S8, .f32⟩
  | 25 => ⟨S1x8x1x1, .f32⟩
  | 26 => ⟨S8x1x512x512, .f32⟩
  | 27 => ⟨S8x8x512x512, .f32⟩
  | 28 => ⟨S8x8x512x512, .f32⟩
  | 29 => ⟨S8x8x512x512, .f32⟩
  | 30 => ⟨S8x8x512x512, .f32⟩
  | 31 => ⟨S8x1x1x1, .f32⟩
  | 32 => ⟨S8, .f32⟩
  | 33 => ⟨S1x8x1x1, .f32⟩
  | 34 => ⟨S8x1x512x512, .f32⟩
  | 35 => ⟨S8x8x512x512, .f32⟩
  | 36 => ⟨S8x8x512x512, .f32⟩
  | 37 => ⟨S8x8x512x512, .f32⟩
  | 38 => ⟨S8x8x512x512, .f32⟩
  | 39 => ⟨S8x1x1x1, .f32⟩
  | 40 => ⟨S8, .f32⟩
  | 41 => ⟨S1x8x1x1, .f32⟩
  | 42 => ⟨S8x1x512x512, .f32⟩
  | 43 => ⟨S8x8x512x512, .f32⟩
  | 44 => ⟨S8x8x512x512, .f32⟩
  | 45 => ⟨S8x8x512x512, .f32⟩
  | 46 => ⟨S8x8x512x512, .f32⟩
  | 47 => ⟨S8x1x1x1, .f32⟩
  | 48 => ⟨S8, .f32⟩
  | 49 => ⟨S1x8x1x1, .f32⟩
  | 50 => ⟨S8x1x512x512, .f32⟩
  | 51 => ⟨S8x8x512x512, .f32⟩
  | 52 => ⟨S8x8x512x512, .f32⟩
  | 53 => ⟨S8x8x512x512, .f32⟩
  | 54 => ⟨S8x8x512x512, .f32⟩
  | 55 => ⟨S8x1x1x1, .f32⟩
  | 56 => ⟨S8, .f32⟩
  | 57 => ⟨S1x8x1x1, .f32⟩
  | 58 => ⟨S8x1x512x512, .f32⟩
  | 59 => ⟨S8x8x512x512, .f32⟩
  | 60 => ⟨S8x8x512x512, .f32⟩
  | 61 => ⟨S8x8x512x512, .f32⟩
  | 62 => ⟨S8x8x512x512, .f32⟩
  | 63 => ⟨S8x1x1x1, .f32⟩
  | 64 => ⟨S8, .f32⟩
  | 65 => ⟨S1x8x1x1, .f32⟩
  | 66 => ⟨S8x1x512x512, .f32⟩
  | 67 => ⟨S8x8x512x512, .f32⟩
  | 68 => ⟨S8x8x512x512, .f32⟩
  | 69 => ⟨S8x8x512x512, .f32⟩
  | 70 => ⟨S8x8x512x512, .f32⟩
  | 71 => ⟨S8x1x1x1, .f32⟩
  | 72 => ⟨S8, .f32⟩
  | 73 => ⟨S1x8x1x1, .f32⟩
  | 74 => ⟨S8x1x512x512, .f32⟩
  | 75 => ⟨S8x8x512x512, .f32⟩
  | 76 => ⟨S8x8x512x512, .f32⟩
  | 77 => ⟨S8x8x512x512, .f32⟩
  | 78 => ⟨S8x8x512x512, .f32⟩
  | 79 => ⟨S8x1x1x1, .f32⟩
  | 80 => ⟨S8, .f32⟩
  | 81 => ⟨S1x8x1x1, .f32⟩
  | 82 => ⟨S8x1x512x512, .f32⟩
  | 83 => ⟨S8x8x512x512, .f32⟩
  | 84 => ⟨S8x8x512x512, .f32⟩
  | 85 => ⟨S8x8x512x512, .f32⟩
  | 86 => ⟨S8x8x512x512, .f32⟩
  | 87 => ⟨S_, .f32⟩
  | 88 => ⟨S8x8x512x512, .f32⟩
  | 89 => ⟨S8x8x512x512, .i1⟩
  | 90 => ⟨S_, .f32⟩
  | 91 => ⟨S_, .f32⟩
  | 92 => ⟨S8x8x512x512, .f32⟩
  | 93 => ⟨S8x8x512x512, .f32⟩
  | 94 => ⟨S8x8x512x512, .f32⟩
  | 95 => ⟨S8x8x512x512, .f32⟩
  | 96 => ⟨S8x8x512x512, .f32⟩
  | 97 => ⟨S8x8x512x512, .f32⟩
  | 98 => ⟨S_, .f32⟩
  | 99 => ⟨S8x512x512, .f32⟩
  | 100 => ⟨S8x512x512, .i32⟩
  | 101 => ⟨S2097152, .i32⟩
  | 102 => ⟨S_, .i32⟩
  | 103 => ⟨S256, .i32⟩
  | 104 => ⟨S_, .i32⟩
  | 105 => ⟨S_, .i32⟩
  | 106 => ⟨S2097152, .i32⟩
  | 107 => ⟨S2097152, .i32⟩
  | 108 => ⟨S_, .i32⟩
  | 109 => ⟨S2097152, .i32⟩
  | 110 => ⟨S2097152, .i1⟩
  | 111 => ⟨S_, .i32⟩
  | 112 => ⟨S2097152, .i32⟩
  | 113 => ⟨S2097152, .i32⟩
  | 114 => ⟨S2097152, .i32⟩
  | 115 => ⟨S2097152x1, .i32⟩
  | 116 => ⟨S_, .i32⟩
  | 117 => ⟨S2097152, .i32⟩
  | 118 => ⟨S256, .i32⟩
  | 119 => ⟨S256, .f32⟩
  | 120 => ⟨S1x256, .f32⟩
  | 121 => ⟨S_, .f32⟩
  | 122 => ⟨S1, .f32⟩
  | 123 => ⟨S1x1, .f32⟩
  | 124 => ⟨S_, .f32⟩
  | 125 => ⟨S1x1, .f32⟩
  | 126 => ⟨S1x1, .f32⟩
  | 127 => ⟨S_, .i32⟩
  | _ => ⟨S8x3x512x512, .f32⟩

abbrev hbmTy0_1 (i : Nat) : BufTy := match i % 128 with
  | 0 => ⟨S_, .f32⟩
  | 1 => ⟨S1, .f32⟩
  | 2 => ⟨S1x1, .f32⟩
  | 3 => ⟨S_, .f32⟩
  | 4 => ⟨S1x1, .f32⟩
  | 5 => ⟨S1x1, .f32⟩
  | 6 => ⟨S1x256, .f32⟩
  | 7 => ⟨S1x256, .f32⟩
  | 8 => ⟨S1x256, .f32⟩
  | 9 => ⟨S_, .f32⟩
  | 10 => ⟨S_, .f32⟩
  | 11 => ⟨S_, .f32⟩
  | 12 => ⟨S_, .f32⟩
  | 13 => ⟨S1, .f32⟩
  | 14 => ⟨S1x1, .f32⟩
  | 15 => ⟨S1x1, .f32⟩
  | 16 => ⟨S1x1, .f32⟩
  | 17 => ⟨S_, .f32⟩
  | 18 => ⟨S_, .i1⟩
  | 19 => ⟨S_, .f32⟩
  | 20 => ⟨S_, .f32⟩
  | 21 => ⟨S1x1, .f32⟩
  | 22 => ⟨S1x1, .f32⟩
  | 23 => ⟨S1x1, .f32⟩
  | 24 => ⟨S1x256, .f32⟩
  | 25 => ⟨S1x256, .f32⟩
  | 26 => ⟨S1x256, .f32⟩
  | 27 => ⟨S1x256, .f32⟩
  | _ => ⟨S8x3x512x512, .f32⟩

abbrev hbmTy (i : Nat) : BufTy := match i / 128 with
  | 0 => hbmTy0_0 i
  | 1 => hbmTy0_1 i
  | _ => ⟨S8x3x512x512, .f32⟩

abbrev bufTy : (tb : Table) → Fin (tcTables nBuf tb) → BufTy
  | .hbm, ⟨i, _⟩ => hbmTy i
  | _, _ => ⟨S8x3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_call0_v0 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_cst_2 : Ref sig .tc := ⟨.hbm, 87, rfl⟩
abbrev main_v79 : Ref sig .tc := ⟨.hbm, 88, rfl⟩
abbrev main_v80 : Ref sig .tc := ⟨.hbm, 89, rfl⟩
abbrev main_cst_3 : Ref sig .tc := ⟨.hbm, 90, rfl⟩
abbrev main_cst_4 : Ref sig .tc := ⟨.hbm, 91, rfl⟩
abbrev main_call1_v0 : Ref sig .tc := ⟨.hbm, 92, rfl⟩
abbrev main_call1_v1 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_cst_5 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_c_6 : Ref sig .tc := ⟨.hbm, 102, rfl⟩
abbrev main_v88 : Ref sig .tc := ⟨.hbm, 103, rfl⟩
abbrev main_c_7 : Ref sig .tc := ⟨.hbm, 104, rfl⟩
abbrev main_call2_v0 : Ref sig .tc := ⟨.hbm, 105, rfl⟩
abbrev main_call2_v1 : Ref sig .tc := ⟨.hbm, 106, rfl⟩
abbrev main_v89 : Ref sig .tc := ⟨.hbm, 107, rfl⟩
abbrev main_c_8 : Ref sig .tc := ⟨.hbm, 108, rfl⟩
abbrev main_v90 : Ref sig .tc := ⟨.hbm, 109, rfl⟩
abbrev main_v91 : Ref sig .tc := ⟨.hbm, 110, rfl⟩
abbrev main_c_9 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_c_10 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_cst_11 : Ref sig .tc := ⟨.hbm, 121, rfl⟩
abbrev main_v100 : Ref sig .tc := ⟨.hbm, 122, rfl⟩
abbrev main_v101 : Ref sig .tc := ⟨.hbm, 123, rfl⟩
abbrev main_cst_12 : Ref sig .tc := ⟨.hbm, 124, rfl⟩
abbrev main_v102 : Ref sig .tc := ⟨.hbm, 125, rfl⟩
abbrev main_v103 : Ref sig .tc := ⟨.hbm, 126, rfl⟩
abbrev main_c_13 : Ref sig .tc := ⟨.hbm, 127, rfl⟩
abbrev main_call3_call0_cst : Ref sig .tc := ⟨.hbm, 128, rfl⟩
abbrev main_call3_call0_v0 : Ref sig .tc := ⟨.hbm, 129, rfl⟩
abbrev main_call3_call0_v1 : Ref sig .tc := ⟨.hbm, 130, rfl⟩
abbrev main_call3_call0_cst_0 : Ref sig .tc := ⟨.hbm, 131, rfl⟩
abbrev main_call3_call0_v2 : Ref sig .tc := ⟨.hbm, 132, rfl⟩
abbrev main_call3_call0_v3 : Ref sig .tc := ⟨.hbm, 133, rfl⟩
abbrev main_call3_call0_v4 : Ref sig .tc := ⟨.hbm, 134, rfl⟩
abbrev main_call3_call0_v5 : Ref sig .tc := ⟨.hbm, 135, rfl⟩
abbrev main_call3_call0_v6 : Ref sig .tc := ⟨.hbm, 136, rfl⟩
abbrev main_call3_call0_v7 : Ref sig .tc := ⟨.hbm, 137, rfl⟩
abbrev main_call3_call0_cst_1 : Ref sig .tc := ⟨.hbm, 138, rfl⟩
abbrev main_call3_call0_v8 : Ref sig .tc := ⟨.hbm, 139, rfl⟩
abbrev main_call3_call0_cst_2 : Ref sig .tc := ⟨.hbm, 140, rfl⟩
abbrev main_call3_call0_v9 : Ref sig .tc := ⟨.hbm, 141, rfl⟩
abbrev main_call3_call0_v10 : Ref sig .tc := ⟨.hbm, 142, rfl⟩
abbrev main_call3_call0_v11 : Ref sig .tc := ⟨.hbm, 143, rfl⟩
abbrev main_call3_call0_v12 : Ref sig .tc := ⟨.hbm, 144, rfl⟩
abbrev main_call3_call0_cst_3 : Ref sig .tc := ⟨.hbm, 145, rfl⟩
abbrev main_call3_call0_v13 : Ref sig .tc := ⟨.hbm, 146, rfl⟩
abbrev main_call3_call0_cst_4 : Ref sig .tc := ⟨.hbm, 147, rfl⟩
abbrev main_call3_call0_call0_v0 : Ref sig .tc := ⟨.hbm, 148, rfl⟩
abbrev main_call3_call0_call0_v1 : Ref sig .tc := ⟨.hbm, 149, rfl⟩
abbrev main_call3_v0 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩

abbrev nD : Nat := 1
abbrev τ : Topo := Topo.v7x

variable {F : FTy → Type} [FloatOps F]
-- ==== Proof.Tally.lean ====
/-
  The counting behind the SparseCore kernel, for any float instance: sixteen lanes each add one onto an entry of their own stretch of
  256 entries, so that after `n` trips an entry holds one added as often as its lane met its value.
-/
module

public import Idealize.ShloMosaic.Lib.Tactic

@[expose] public section

noncomputable section

namespace Cert.Lbp

open Idealize.ShloMosaic

variable {F : FTy → Type} [FloatOps F]

/-- The constant one, as the kernel writes it. -/
def one : F .f32 := Scalar.ofBits .f32 0x3F800000#32
/-- The constant zero, as the kernel writes it. -/
def zero : F .f32 := Scalar.ofBits .f32 0x00000000#32

/-- One added onto `y`, by the indexed store's own addition. -/
def plusOne (y : F .f32) : F .f32 := Elt.idxAdd (F := F) .f32 y one

/-- Zero with one added onto it `k` times. -/
def tally (k : ℕ) : F .f32 := (plusOne (F := F))^[k] zero

/-- No ones added is zero. -/
theorem tally_zero : tally (F := F) 0 = zero := rfl
/-- One more one added. -/
theorem tally_succ (k : ℕ) : tally (F := F) (k + 1) = plusOne (tally k) := Function.iterate_succ_apply' _ _ _

/-- How often, in the first `n` trips, the lane of entry `j` meets the value `j` stands for: entry `j` is value `j % 256` of lane `j / 256`,
    and lane `l` sees element `16 t + l` at trip `t`. -/
def hits (c : ℕ → ℕ) (n j : ℕ) : ℕ := ((Finset.range n).filter fun t => c (16 * t + j / 256) = j % 256).card

/-- Before the first step nothing is hit. -/
theorem hits_zero (c : ℕ → ℕ) (j : ℕ) : hits c 0 j = 0 := rfl

/-- One more step adds a hit where the lane's code is the place's. -/
theorem hits_succ (c : ℕ → ℕ) (n j : ℕ) : hits c (n + 1) j = hits c n j + if c (16 * n + j / 256) = j % 256 then 1 else 0 := by
  unfold hits
  rw [Finset.range_add_one, Finset.filter_insert]
  split
  · rw [Finset.card_insert_of_notMem (by simp)]
  · rfl

abbrev L16 : Shape := ⟨1, ![16]⟩
abbrev B4096 : Shape := ⟨1, ![4096]⟩

/-- Lane `l` of sixteen. -/
abbrev lane (l : Fin 16) : L16.Idx := Shape.ofLane (d := ![16]) l

/-- The lane whose stretch entry `j` lies in. -/
def laneOf (j : B4096.Idx) : Fin 16 := ⟨(j 0).val / 256, by have : (j 0).val < 4096 := (j 0).isLt; omega⟩

/-- A fold whose step changes entry `j` only for the one element `k₀`, met at most once. -/
theorem foldl_once {A I β : Type} [DecidableEq A] (j : I) (p : β → β) (c : A → Prop) [DecidablePred c] (k₀ : A) (step : (I → β) → A → (I → β))
    (hstep : ∀ g k, step g k j = if c k then p (g j) else g j) (huniq : ∀ k, c k → k = k₀) :
    ∀ (L : List A), L.Nodup → ∀ g : I → β, L.foldl step g j = if k₀ ∈ L ∧ c k₀ then p (g j) else g j := by
  intro L
  induction L with
  | nil => intro _ g; simp
  | cons k L ih =>
    intro hnd g
    rw [List.foldl_cons, ih (List.nodup_cons.mp hnd).2, hstep]
    by_cases hk : k = k₀
    · subst hk
      have hn : k ∉ L := (List.nodup_cons.mp hnd).1
      simp [hn]
    · have hne : ¬ c k := fun e => hk (huniq k e)
      have hk' : ¬ k₀ = k := fun e => hk e.symm
      simp [hne, hk']

/-- The indexed add of a vector of ones, when lane `l` names an entry of stretch `l`: one is added at the entries some lane names, and only there. -/
theorem storeIdx_ones (f : Vec F B4096 .f32) (v : IVec L16 32) (h : ∀ a x, ((![v] : Fin 1 → IVec L16 32) a x).toNat < B4096.size a)
    (hl : ∀ l : Fin 16, (v (lane l)).toNat / 256 = l.val) (j : B4096.Idx) :
    storeIdx (s := B4096) (d := ![16]) f ![v] (fun _ => one) (fun _ => 1#1) true h j
      = if (v (lane (laneOf j))).toNat = (j 0).val then plusOne (f j) else f j := by
  have huniq : ∀ k : Fin 16, (v (lane k)).toNat = (j 0).val → k = laneOf j := by
    intro k e
    apply Fin.ext
    show k.val = (j 0).val / 256
    rw [← e]; exact (hl k).symm
  unfold storeIdx
  refine (foldl_once (A := Fin 16) j (plusOne (F := F)) (fun k => (v (lane k)).toNat = (j 0).val) (laneOf j) _ ?_ huniq _ (List.nodup_finRange 16) f).trans ?_
  · intro g k
    refine (congrFun (if_pos (show (1#1 : BitVec 1) = 1 from rfl)) j).trans ?_
    have hiff : (∀ a, (j a).val = (idxAt (s := B4096) ![v] h (lane k) a).val) ↔ (v (lane k)).toNat = (j 0).val := by
      constructor
      · intro e; exact (e 0).symm
      · intro e a
        have ha : a = 0 := Subsingleton.elim _ _
        subst ha; exact e.symm
    by_cases hc : (v (lane k)).toNat = (j 0).val
    · refine (if_pos (hiff.mpr hc)).trans ?_
      rw [if_pos hc]
      have hj : idxAt (s := B4096) ![v] h (lane k) = j := by
        funext a; exact Fin.ext ((hiff.mpr hc a).symm)
      show plusOne (g (idxAt (s := B4096) ![v] h (lane k))) = _
      rw [hj]
    · refine (if_neg (fun e => hc (hiff.mp e))).trans ?_
      rw [if_neg hc]
  · have hm : laneOf j ∈ List.finRange 16 := List.mem_finRange _
    simp only [hm, true_and]

end Cert.Lbp

end
-- ==== Proof.KernelIdealTrip.lean ====
/-
  The SparseCore call of the kernel, on one vector subcore: fetch a chunk of 65536 codes, clear a table of 16 x 256 counts, count, and write
  the table out as one row. Stated for any float instance; the contents of the row are given outright.
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.WritesUnit
public import Idealize.ShloMosaic.Lib.Pipeline.ValueKit
public import proofs.«01_k».proof.Proof.Tally

@[expose] public section

set_option maxRecDepth 16384

noncomputable section

namespace Cert.KernelIdealRun

open Cert.KernelIdeal Cert.KernelIdeal.Gen Cert.Lbp

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 2) fun p => (pcfgs (F := F) p).Adm
abbrev K : SparseCore.Cfg τ sig (ΛP (F := F)) 1 := sc (F := F)
/-- The call uses 16 tiles of a core. -/
theorem nSub_zero : (K (F := F)).nSub 0 = 16 := rfl
/-- The call uses two cores. -/
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The side conditions of the handshakes. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the two pipelines' rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL

/-! ## The buffers -/

/-- The codes, flat (`main_v1`), and the counts, a row a tile (`main_v2`), as locations of device `d`. -/
abbrev xLoc (d : Dev nD) : Loc nD τ sig := (SparseCore.T d).loc main_v1
abbrev oLoc (d : Dev nD) : Loc nD τ sig := (SparseCore.T d).loc main_v2

local notation "xV" => (Memref.whole Cert.KernelIdeal.main_v1_scv : Memref Cert.KernelIdeal.sig Kind.scVector Space.hbm Cert.KernelIdeal.S2097152 EltTy.i32)
local notation "oV" => (Memref.whole Cert.KernelIdeal.main_v2_scv : Memref Cert.KernelIdeal.sig Kind.scVector Space.hbm Cert.KernelIdeal.S32x4096 EltTy.f32)
local notation "sC" => (Memref.whole Cert.KernelIdeal.cc1_scratch0 : Memref Cert.KernelIdeal.sig Kind.scVector Space.vmem Cert.KernelIdeal.S65536 EltTy.i32)
local notation "sH" => (Memref.whole Cert.KernelIdeal.cc1_scratch1 : Memref Cert.KernelIdeal.sig Kind.scVector Space.vmem Cert.KernelIdeal.S4096 EltTy.f32)

/-- The codes divide evenly among the tiles. -/
theorem hdivX : 32 ∣ S2097152.size 0 := ⟨65536, rfl⟩
/-- The partial counts divide evenly among the tiles. -/
theorem hdivO : 32 ∣ S32x4096.size 0 := ⟨1, rfl⟩
/-- Chunk `w` of the codes and row `w` of the counts: one tile's. -/
abbrev xRow (w : Fin 32) : Rect S2097152 := Rect.part (s := S2097152) (a₀ := 0) hdivX w
abbrev oRow (w : Fin 32) : Rect S32x4096 := Rect.part (s := S32x4096) (a₀ := 0) hdivO w
abbrev xSet (w : Fin 32) : Finset S2097152.Idx := ((xV).view.slice (xRow w)).set
abbrev oSet (w : Fin 32) : Finset S32x4096.Idx := ((oV).view.slice (oRow w)).set

/-- The code at flat position `k`, as a number. -/
def codeAt (g : IVec S2097152 32) (k : ℕ) : ℕ := if h : k < 2097152 then (g fun a => ⟨k, by rw [Subsingleton.elim a 0]; exact h⟩).toNat else 0

/-- Every code read from a vector of codes below 256 is below 256. -/
theorem codeAt_lt (g : IVec S2097152 32) (hg : ∀ x, (g x).toNat < 256) (k : ℕ) : codeAt g k < 256 := by
  unfold codeAt
  split
  · exact hg _
  · decide

variable [FloatOps F]

/-- What the call leaves in the counts: entry `j` of row `w` is one added up as often as lane `j / 256` of tile `w` meets the code `j % 256`
    in the tile's chunk. -/
def counts (g : IVec S2097152 32) : FVec F S32x4096 .f32 := fun j => tally (hits (fun k => codeAt g (65536 * (j 0).val + k)) 4096 (j 1).val)

variable (g : IVec S2097152 32)

abbrev xPts (d : Dev nD) (w : Fin 32) : sProp 𝕄 := xLoc d ↦[xSet w]{fullShare} (g : Buf (Elt F) (xLoc d))
abbrev oPts (d : Dev nD) (w : Fin 32) (f : Buf (Elt F) (oLoc d)) : sProp 𝕄 := oLoc d ↦[oSet w]{fullShare} f

/-! ## The task -/

section Tile

variable (d : Dev nD) (L : grid1.Coords)

abbrev cV (L : grid1.Coords) : Fin τ.nSC := (L 0).castLE hcore1
abbrev jV (L : grid1.Coords) : Fin τ.nSub := (L 1).castLE hsub1
/-- The tile's number: twice its subcore's, plus its SparseCore's. -/
def wid (L : grid1.Coords) : Fin 32 :=
  ⟨2 * (L 1).val + (L 0).val, by have h0 : (L 0).val < 2 := (L 0).isLt; have h1 : (L 1).val < 16 := (L 1).isLt; omega⟩

abbrev rectX (L : grid1.Coords) : Rect S2097152 := Rect.unit (s := S2097152) (k1_off1 L) S65536.size (k1_off1_inb L)
abbrev rectO (L : grid1.Coords) : Rect S32x4096 := Rect.unit (s := S32x4096) (k1_off4 L) S1x4096.size (k1_off4_inb L)
abbrev xK (L : grid1.Coords) : Memref sig .scVector .hbm S65536 .i32 := (xV).slice (rectX L) (fun _ => rfl)
abbrev oK (L : grid1.Coords) : Memref sig .scVector .hbm S4096 .f32 := ((oV).slice (rectO L) (fun _ => rfl)).squeeze S4096 squeezes_S1x4096_S4096

omit [FloatOps F] in
/-- The rectangle of codes that the program slices is the tile's part. -/
theorem rectX_eq : rectX L = xRow (wid L) := by
  unfold rectX xRow Rect.part Rect.block
  congr 1 <;> funext a
  · rw [k1_off1_eq]
    match a with
    | 0 => simp [Shape.partIx, Shape.partSize, wid]; omega
  · match a with
    | 0 => simp [Shape.partSize]
omit [FloatOps F] in
/-- The rectangle of partial counts that the program slices is the tile's part. -/
theorem rectO_eq : rectO L = oRow (wid L) := by
  unfold rectO oRow Rect.part Rect.block
  congr 1 <;> funext a
  · rw [k1_off4_eq]
    match a with
    | 0 => simp [Shape.partIx, Shape.partSize, wid]
    | 1 => simp [Shape.partIx, Shape.partSize]
  · match a with
    | 0 => simp [Shape.partSize]
    | 1 => simp [Shape.partSize]

omit [FloatOps F] in
/-- The program's slice of the codes is the tile's set. -/
theorem set_xK : (xK L).view.set = xSet (wid L) := by
  show ((xV).view.slice (rectX L)).set = ((xV).view.slice (xRow (wid L))).set
  exact rectX_eq L ▸ rfl
omit [FloatOps F] in
/-- The program's slice of the partial counts is the tile's set. -/
theorem set_oK : (oK L).view.set = oSet (wid L) := by
  show (((oV).view.slice (rectO L)).reshape S4096 squeezes_S1x4096_S4096.numel_eq).set = ((oV).view.slice (oRow (wid L))).set
  rw [View.set_reshape]
  exact rectO_eq L ▸ rfl

omit [FloatOps F] in
/-- Holding the tile's part of the codes, as the program's copy names it. -/
theorem pts_xK (f : Buf (Elt F) (xLoc d)) :
    ((xK L).view.loc (V d (cV L) (jV L)) ↦[(xK L).view.set]{fullShare} f : sProp 𝕄) = xLoc d ↦[xSet (wid L)]{fullShare} f := by
  rw [set_xK]
omit [FloatOps F] in
/-- Holding the tile's part of the partial counts, as the program's copy names it. -/
theorem pts_oK (f : Buf (Elt F) (oLoc d)) :
    ((oK L).view.loc (V d (cV L) (jV L)) ↦[(oK L).view.set]{fullShare} f : sProp 𝕄) = oLoc d ↦[oSet (wid L)]{fullShare} f := by
  rw [set_oK]
omit [FloatOps F] in
/-- Holding the tile's buffer of codes, as the program names it. -/
theorem pts_sC (f : Buf (Elt F) ((V d (cV L) (jV L)).loc cc1_scratch0)) :
    ((sC).view.loc (V d (cV L) (jV L)) ↦{fullShare} f : sProp 𝕄) = (V d (cV L) (jV L)).loc cc1_scratch0 ↦{fullShare} f := rfl
omit [FloatOps F] in
/-- Holding the tile's table of counts, as the program names it. -/
theorem pts_sH (f : Buf (Elt F) ((V d (cV L) (jV L)).loc cc1_scratch1)) :
    ((sH).view.loc (V d (cV L) (jV L)) ↦{fullShare} f : sProp 𝕄) = (V d (cV L) (jV L)).loc cc1_scratch1 ↦{fullShare} f := rfl

/-- The two transfers' semaphore cells: the fetch's and the write-out's. -/
abbrev cAcell (d : Dev nD) (c : Fin τ.nSC) (i : Fin τ.nSub) : GSem nD τ sig := (V d c i, .dma cc1_scoped0.sem)
abbrev cBcell (d : Dev nD) (c : Fin τ.nSC) (i : Fin τ.nSub) : GSem nD τ sig := (V d c i, .dma cc1_scoped1.sem)

omit [FloatOps F] in
/-- A tile's semaphores, one by one. -/
theorem ownSems0_V :
    (ownSems0 (V d (cV L) (jV L)) : sProp 𝕄)
      = iprop(semVal (cAcell d (cV L) (jV L)) 0 ∗ semVal (cBcell d (cV L) (jV L)) 0
          ∗ bigSep (((ownCells (V d (cV L) (jV L))).erase (cAcell d (cV L) (jV L))).erase (cBcell d (cV L) (jV L))) fun g => semVal g 0) := by
  unfold SparseCore.Cfg.ownSems0
  rw [SparseCore.bigSep_erase' ((mem_ownCells (g := cAcell d (cV L) (jV L))).mpr ⟨rfl, by
      show (SemLoc.dma cc1_scoped0.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc1_scoped1.sem : SemLoc sig).isScoped .scVector = true; decide⟩⟩)]

omit [FloatOps F] in
/-- A tile's buffers, one by one. -/
theorem ownBufs_V :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ bigSep (((ownRefs (τ := τ) (.scVector (cV L) (jV L))).erase ((Proc.scVector (cV L) (jV L)).devRef cc1_scratch0)).erase
              ((Proc.scVector (cV L) (jV L)).devRef cc1_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩)]

/-- Clearing: the table whole, its first `16 n` entries zero. -/
def invZ (n : ℕ) (_ : PUnit) : sProp 𝕄 :=
  iprop(∃ f : Buf (Elt F) ((V d (cV L) (jV L)).loc cc1_scratch1), ⌜∀ j : S4096.Idx, (j 0).val < 16 * n → (f : S4096.Idx → F .f32) j = zero⌝
    ∗ ((sH).view.loc (V d (cV L) (jV L)) ↦{fullShare} f))

/-- Counting: the chunk as fetched, the table at the counts of the first `n` trips. -/
def invH (c : Buf (Elt F) ((V d (cV L) (jV L)).loc cc1_scratch0)) (n : ℕ) (_ : PUnit) : sProp 𝕄 :=
  iprop(((sC).view.loc (V d (cV L) (jV L)) ↦{fullShare} c)
    ∗ ∃ f : Buf (Elt F) ((V d (cV L) (jV L)).loc cc1_scratch1),
        ⌜∀ j : S4096.Idx, (f : S4096.Idx → F .f32) j = tally (hits (fun k => codeAt g (65536 * (wid L).val + k)) n (j 0).val)⌝
          ∗ ((sH).view.loc (V d (cV L) (jV L)) ↦{fullShare} f))

omit [FloatOps F] in
/-- The clearing loop has 256 trips. -/
theorem trips_clear : Scf.trips k1_t1_loop.lb k1_t1_loop.ub k1_t1_loop.st = 256 := by decide
omit [FloatOps F] in
/-- The counting loop has 4096 trips. -/
theorem trips_count : Scf.trips k1_t2_loop.lb k1_t2_loop.ub k1_t2_loop.st = 4096 := by decide

/-- One trip of the clearing loop zeroes the next sixteen entries. -/
theorem clear_step (k : Fin k1_t1_loop.trips) (f : S4096.Idx → F .f32) (hf : ∀ j : S4096.Idx, (j 0).val < 16 * k.val → f j = zero)
    (j : S4096.Idx) (hj : (j 0).val < 16 * (k.val + 1)) :
    ((sH).view.writes (Elt F) f [⟨Rect.unit (s := S4096) (k1_off2 k) S16.size (k1_off2_inb k), (k1_pay1 (F := F))⟩] : S4096.Idx → F .f32) j = zero := by
  have h := View.read_writes_cons_unit (Val := Elt F) (v := (sH).view) (f := f) (k1_off2_inb k) (k1_pay1 (F := F)) [] j (k1_off2_eq k)
  refine Eq.trans h ?_
  split
  · rfl
  · rename_i hn
    refine hf j ?_
    by_contra hlt
    refine hn fun a => ?_
    have ha : a = (0 : Fin 1) := Subsingleton.elim (α := Fin 1) _ _
    subst ha
    show 16 * k.val ≤ (j 0).val ∧ (j 0).val < 16 * k.val + 16
    omega

omit [FloatOps F] in
/-- Element `y` of the tile's chunk is the code at flat position `65536 w + y`. -/
theorem chunk_apply (y : S65536.Idx) :
    ((View.read (Elt F) (xK L).view (g : S2097152.Idx → Elt F .i32) : S65536.Idx → BitVec 32) y).toNat = codeAt g (65536 * (wid L).val + (y 0).val) := by
  have hy : (y 0).val < 65536 := (y 0).isLt
  have hw : (wid L).val < 32 := (wid L).isLt
  unfold codeAt
  rw [dif_pos (by omega)]
  show (g ((rectX L).emb y)).toNat = _
  congr 2
  funext a
  have ha : a = (0 : Fin 1) := Subsingleton.elim (α := Fin 1) _ _
  subst ha
  apply Fin.ext
  refine (ValueKit.rect_emb_unit_val _ _ _ _ _).trans ?_
  rw [show k1_off1 L (0 : Fin 1) = 131072 * (L 1).val + 65536 * (L 0).val from congrFun (k1_off1_eq L) 0]
  show 131072 * (L 1).val + 65536 * (L 0).val + (y 0).val = 65536 * (2 * (L 1).val + (L 0).val) + (y 0).val
  omega

omit [FloatOps F] in
/-- Lane `l` at trip `k` names the entry of its own stretch that its code stands for. -/
theorem index_val (k : Fin k1_t2_loop.trips) (c : S65536.Idx → BitVec 32) (hc : ∀ y, (c y).toNat < 256) (l : Fin 16) :
    ((k1_pay3 (F := F) (View.readAt (Elt F) (sC).view (Rect.unit (s := S65536) (k1_off3 k) S16.size (k1_off3_inb k)).toLoadRect c) (lane l) : BitVec 32)).toNat
      = (c fun a => ⟨16 * k.val + l.val, by
          have : k.val < 4096 := lt_of_lt_of_le k.isLt k1_t2_abs.2.1
          rw [show a = (0 : Fin 1) from Subsingleton.elim (α := Fin 1) _ _]; show _ < 65536; omega⟩).toNat + 256 * l.val := by
  have hidx : (Rect.unit (s := S65536) (k1_off3 k) S16.size (k1_off3_inb k)).emb (lane l) = fun a => ⟨16 * k.val + l.val, by
          have : k.val < 4096 := lt_of_lt_of_le k.isLt k1_t2_abs.2.1
          rw [show a = (0 : Fin 1) from Subsingleton.elim (α := Fin 1) _ _]; show _ < 65536; omega⟩ := by
    funext a
    have ha : a = (0 : Fin 1) := Subsingleton.elim (α := Fin 1) _ _
    subst ha
    apply Fin.ext
    refine (ValueKit.rect_emb_unit_val _ _ _ _ _).trans ?_
    rw [show k1_off3 k (0 : Fin 1) = 16 * k.val from congrFun (k1_off3_eq k) 0]
    rfl
  show (c ((Rect.unit (s := S65536) (k1_off3 k) S16.size (k1_off3_inb k)).emb (lane l)) + BitVec.ofNat 32 (0 * 16 + l.val) * 256#32 : BitVec 32).toNat = _
  rw [hidx]
  generalize hz : (c fun a => _) = z
  have hzl : z.toNat < 256 := by rw [← hz]; exact hc _
  have hl : l.val < 16 := l.isLt
  rw [BitVec.toNat_add, BitVec.toNat_mul, BitVec.toNat_ofNat, BitVec.toNat_ofNat]
  omega

/-- One trip of the counting loop: the side condition of the indexed store. -/
theorem trip_chk (k : Fin k1_t2_loop.trips) (c : S65536.Idx → BitVec 32) (hc : ∀ y, (c y).toNat < 256) :
    k1_chk1 (k1_pay3 (F := F) (View.readAt (Elt F) (sC).view (Rect.unit (s := S65536) (k1_off3 k) S16.size (k1_off3_inb k)).toLoadRect c)) := by
  intro a x
  have ha : a = (0 : Fin 1) := Subsingleton.elim (α := Fin 1) _ _
  subst ha
  obtain ⟨l, rfl⟩ : ∃ l : Fin 16, x = lane l := ⟨x 0, funext fun a => by
    have ha : a = (0 : Fin 1) := Subsingleton.elim (α := Fin 1) _ _
    subst ha; rfl⟩
  show (k1_pay3 (F := F) _ (lane l) : BitVec 32).toNat < 4096
  rw [index_val k c hc l]
  have := hc (fun a => ⟨16 * k.val + l.val, by
          have : k.val < 4096 := lt_of_lt_of_le k.isLt k1_t2_abs.2.1
          rw [show a = (0 : Fin 1) from Subsingleton.elim (α := Fin 1) _ _]; show _ < 65536; omega⟩)
  have hl : l.val < 16 := l.isLt
  omega

/-- One trip of the counting loop: the counts after it. -/
theorem trip_counts (k : Fin k1_t2_loop.trips) (c : S65536.Idx → BitVec 32) (hc : ∀ y, (c y).toNat < 256) (cw : ℕ → ℕ)
    (hcw : ∀ y, (c y).toNat = cw (y 0).val) (f : S4096.Idx → F .f32) (hf : ∀ j : S4096.Idx, f j = tally (hits cw k.val (j 0).val))
    (h : ∀ a x, ((![k1_pay3 (F := F) (View.readAt (Elt F) (sC).view (Rect.unit (s := S65536) (k1_off3 k) S16.size (k1_off3_inb k)).toLoadRect c)] : Fin 1 → IVec S16 32) a x).toNat < S4096.size a)
    (j : S4096.Idx) :
    storeIdx (F := F) (s := S4096) (e := .f32) (d := ![16]) f
        ![k1_pay3 (F := F) (View.readAt (Elt F) (sC).view (Rect.unit (s := S65536) (k1_off3 k) S16.size (k1_off3_inb k)).toLoadRect c)]
        (k1_pay2 (F := F)) (fun _ => 1#1) true h j = tally (hits cw (k.val + 1) (j 0).val) := by
  have hv := index_val (F := F) k c hc
  refine (storeIdx_ones (F := F) f _ h (fun l => ?_) j).trans ?_
  · rw [hv l]
    have := hc (fun a => ⟨16 * k.val + l.val, by
          have : k.val < 4096 := lt_of_lt_of_le k.isLt k1_t2_abs.2.1
          rw [show a = (0 : Fin 1) from Subsingleton.elim (α := Fin 1) _ _]; show _ < 65536; omega⟩)
    omega
  · rw [hv (laneOf j), hits_succ, hcw, hf j]
    show (if cw (16 * k.val + (j 0).val / 256) + 256 * ((j 0).val / 256) = (j 0).val then _ else _) = _
    by_cases hh : cw (16 * k.val + (j 0).val / 256) = (j 0).val % 256
    · rw [if_pos (by omega), if_pos hh, tally_succ]
    · rw [if_neg (by omega), if_neg hh]; rfl

omit [FloatOps F] in
/-- A write through a whole view, at an element the view holds. -/
theorem writes_whole_emb {sig : RefSig} {κ : Kind} (Val : EltTy → Type) {sp : Space} {s : Shape} {e : EltTy} (v : View sig κ sp s e) (f : v.ty.Contents Val)
    (w : s.Idx → Val e) (y : s.Idx) : v.writes Val f [⟨Rect.whole s, w⟩] (v.emb y) = cast (congrArg Val v.elt_eq.symm) (w y) := by
  have h := View.write_emb_of_mem (Val := Val) (v := v.slice (Rect.whole s)) f w (Finset.mem_univ y)
  rw [View.writes_singleton]
  rw [View.emb_slice, Function.Embedding.trans_apply, Rect.emb_whole_apply] at h
  exact h

omit [FloatOps F] in
/-- The table written onto a row, entry by entry. -/
theorem written_emb (fo : S32x4096.Idx → F .f32) (f : S4096.Idx → F .f32) (y : S4096.Idx) :
    (oK L).view.writes (Elt F) fo [⟨Rect.whole S4096, f⟩] ((oK L).view.emb y) = f y := by
  have h := writes_whole_emb (Elt F) (oK L).view fo f y
  have h2 : cast (congrArg (Elt F) (oK L).view.elt_eq.symm) (f y) = f y := eq_of_heq (cast_heq _ _)
  exact h.trans h2

omit [FloatOps F] in
/-- Reading one row as a table keeps the entries' order. -/
theorem row_entry (z : S1x4096.Idx) (y : S4096.Idx) (h : (S1x4096.rowMajor z).val = (S4096.rowMajor y).val) : (z 1).val = (y 0).val := by
  have h1 : (S1x4096.rowMajor z).val = (z 0).val * 4096 + (z 1).val := Shape.rowMajor_val_two (d := ![1, 4096]) z
  have h2 : (S4096.rowMajor y).val = (y 0).val := Shape.rowMajor_val_one (d := ![4096]) y
  have h0 : (z 0).val < 1 := (z 0).isLt
  rw [h1, h2] at h
  omega

omit [FloatOps F] in
/-- Row `w` of an array after the table `f` is written onto it. -/
theorem row_written (fo : S32x4096.Idx → F .f32) (f : S4096.Idx → F .f32) (i : S32x4096.Idx) (hi : i ∈ (oK L).view.set) :
    ((oK L).view.writes (Elt F) fo [⟨Rect.whole S4096, f⟩] : S32x4096.Idx → F .f32) i
      = f (fun a => ⟨(i 1).val, by rw [show a = (0 : Fin 1) from Subsingleton.elim (α := Fin 1) _ _]; exact (i 1).isLt⟩) ∧ (i 0).val = (wid L).val := by
  obtain ⟨y, -, rfl⟩ := Finset.mem_map.mp hi
  have hz : ∀ a, ((oK L).view.emb y a).val = k1_off4 L a + (Shape.reshapeEquiv (s := S1x4096) (s' := S4096) squeezes_S1x4096_S4096.numel_eq y a).val := by
    intro a
    exact ValueKit.rect_emb_unit_val (s := S32x4096) (k1_off4 L) S1x4096.size (k1_off4_inb L) _ a
  have h0 : (Shape.reshapeEquiv (s := S1x4096) (s' := S4096) squeezes_S1x4096_S4096.numel_eq y 0).val < 1 :=
    (Shape.reshapeEquiv (s := S1x4096) (s' := S4096) squeezes_S1x4096_S4096.numel_eq y 0).isLt
  have hr := row_entry _ y (Shape.rowMajor_reshapeEquiv (s := S1x4096) (s' := S4096) squeezes_S1x4096_S4096.numel_eq y)
  have e0 := hz 0
  have e1 := hz 1
  rw [k1_off4_eq] at e0 e1
  refine ⟨?_, ?_⟩
  · refine (written_emb L fo f y).trans (congrArg f ?_)
    funext a
    have ha : a = (0 : Fin 1) := Subsingleton.elim (α := Fin 1) _ _
    subst ha
    apply Fin.ext
    show (y 0).val = ((oK L).view.emb y 1).val
    rw [e1]
    exact (hr.symm.trans (Nat.zero_add _).symm)
  · rw [e0]
    show 2 * (L 1).val + (L 0).val + _ = 2 * (L 1).val + (L 0).val
    omega

/-- The row a tile writes out, at the counts of the whole chunk. -/
theorem counts_row (fo : S32x4096.Idx → F .f32) (f : S4096.Idx → F .f32)
    (hf : ∀ j : S4096.Idx, f j = tally (hits (fun k => codeAt g (65536 * (wid L).val + k)) 4096 (j 0).val))
    (i : S32x4096.Idx) (hi : i ∈ (oK L).view.set) :
    ((oK L).view.writes (Elt F) fo [⟨Rect.whole S4096, f⟩] : S32x4096.Idx → F .f32) i = counts g i := by
  obtain ⟨h1, h2⟩ := row_written L fo f i hi
  rw [h1, hf]
  unfold counts
  rw [h2]

/-- The row of the counts as the tile leaves it, in the launch's spelling. -/
theorem pts_row (fo : S32x4096.Idx → F .f32) (f : S4096.Idx → F .f32)
    (hf : ∀ j : S4096.Idx, f j = tally (hits (fun k => codeAt g (65536 * (wid L).val + k)) 4096 (j 0).val)) :
    ((oK L).view.loc (V d (cV L) (jV L)) ↦[(oK L).view.set]{fullShare} (oK L).view.writes (Elt F) fo [⟨Rect.whole S4096, f⟩] : sProp 𝕄)
      = oPts d (wid L) (counts g) := by
  refine Eq.trans ?_ (pts_oK (F := F) d L (counts (F := F) g))
  exact pointsTo_congr fun i hi => counts_row g L fo f hf i hi

omit [FloatOps F] in
/-- The counts' table whole, in the indexed store's spelling. -/
theorem pts_sH_whole (f : Buf (Elt F) ((V d (cV L) (jV L)).loc cc1_scratch1)) :
    (((sH).access (.whole S4096)).loc (V d (cV L) (jV L)) ↦[((sH).access (.whole S4096)).set]{fullShare} f : sProp 𝕄)
      = (V d (cV L) (jV L)).loc cc1_scratch1 ↦{fullShare} f := by
  rw [show ((sH).access (.whole S4096)).set = Finset.univ from Memref.set_access_whole (cc1_scratch1 : Ref sig .scVector)]

end Tile

end Cert.KernelIdealRun

end
-- ==== Proof.KernelIdealTile.lean ====
/-
  The SparseCore call of the kernel, on one vector subcore: fetch a chunk of 65536 codes, clear a table of 16 x 256 counts, count, and write
  the table out as one row. Stated for any float instance; the contents of the row are given outright.
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.WritesUnit
public import Idealize.ShloMosaic.Lib.Pipeline.ValueKit
public import proofs.«01_k».proof.Proof.KernelIdealTrip

@[expose] public section

set_option maxRecDepth 16384

noncomputable section

namespace Cert.KernelIdealRun

open Cert.KernelIdeal Cert.KernelIdeal.Gen Cert.Lbp

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

variable [FloatOps F]

local notation "𝕄" => MT nD τ sig (HIx 1) (Elt F) ℕ UU ℕ
local notation "xV" => (Memref.whole Cert.KernelIdeal.main_v1_scv : Memref Cert.KernelIdeal.sig Kind.scVector Space.hbm Cert.KernelIdeal.S2097152 EltTy.i32)
local notation "oV" => (Memref.whole Cert.KernelIdeal.main_v2_scv : Memref Cert.KernelIdeal.sig Kind.scVector Space.hbm Cert.KernelIdeal.S32x4096 EltTy.f32)
local notation "sC" => (Memref.whole Cert.KernelIdeal.cc1_scratch0 : Memref Cert.KernelIdeal.sig Kind.scVector Space.vmem Cert.KernelIdeal.S65536 EltTy.i32)
local notation "sH" => (Memref.whole Cert.KernelIdeal.cc1_scratch1 : Memref Cert.KernelIdeal.sig Kind.scVector Space.vmem Cert.KernelIdeal.S4096 EltTy.f32)

variable (g : IVec S2097152 32)

section Tile

variable (d : Dev nD) (L : grid1.Coords)

set_option maxHeartbeats 400000 in
/-- The task on vector subcore `(L 0, L 1)` of device `d`. -/
theorem tile_body (hg : ∀ x, (g x).toNat < 256) (hF : (K (F := F)).Facts) (O : CellTallies nD τ sig (HIx 1)) (W : Waits sig (HIx 1)) (hO : ∀ g, O g none = 0) :
    iprop(levAts (K (F := F)).L (K (F := F)).lev ∗ emp
        ∗ (xPts g d (wid L) ∗ ∃ f, oPts (F := F) d (wid L) f)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1__sc_hist_body L xV (Memref.isWhole_whole _) oV (Memref.isWhole_whole _)
            sC (Memref.isWhole_whole _) sH (Memref.isWhole_whole _) cc1_scratch2 cc1_scoped0 cc1_scoped1)
          fun _ => iprop((xPts g d (wid L) ∗ oPts d (wid L) (counts g))
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  rw [(K (F := F)).scopedBufs_V hF d (cV L) (jV L), SparseCore.Cfg.scopedSems0_V (Val := Elt F) d (cV L) (jV L), ownSems0_V, ownBufs_V]
  iintro ⟨#Hlv, -, ⟨Hx, ⟨%fo, Ho⟩⟩, ⟨⟨%fc, Hc⟩, ⟨%fh, Hh⟩, Hbufs⟩, ⟨HsemA, HsemB, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hx' := (Entails.of_eq (pts_xK (F := F) d L _).symm) $$ Hx
  ihave Ho' := (Entails.of_eq (pts_oK (F := F) d L _).symm) $$ Ho
  ihave Hc' := (Entails.of_eq (pts_sC (F := F) d L _).symm) $$ Hc
  ihave Hh' := (Entails.of_eq (pts_sH (F := F) d L _).symm) $$ Hh
  sl_unfold [cc1__sc_hist_body]
  sl_exec (disch := exact View.amount_pos _ _ (show 0 < S65536.numel by decide))
  sl_for (invZ (F := F) d L) $$ [Hh']
  case region =>
    intro k _
    unfold invZ
    iintro ⟨%f, %hf, Hh⟩
    sl_exec
    sl_step
    iexists _; isplitr [Hh]
    · ipureintro; exact clear_step k f hf
    · iexact Hh
  · unfold invZ
    iexists fh; isplitr [Hh']
    · ipureintro; intro j hj; exact absurd hj (Nat.not_lt_zero _)
    · iexact Hh'
  iintro %_ HI
  unfold invZ
  icases HI with ⟨%fz, %hz, Hh⟩
  sl_exec
  have hc : ∀ y : S65536.Idx, ((View.write (Elt F) (sC).view fc (tile_body.sl.dma0 g L) Finset.univ : S65536.Idx → BitVec 32) y).toNat
      = codeAt g (65536 * (wid L).val + (y 0).val) := by
    rw [show (View.write (Elt F) (sC).view fc (tile_body.sl.dma0 g L) Finset.univ : S65536.Idx → BitVec 32) = tile_body.sl.dma0 g L from View.write_whole_univ _ _ _]
    exact fun y => chunk_apply (F := F) g L y
  generalize View.write (Elt F) (sC).view fc (tile_body.sl.dma0 g L) Finset.univ = c at hc ⊢
  have hc256 : ∀ y : S65536.Idx, ((c : S65536.Idx → BitVec 32) y).toNat < 256 := fun y => by rw [hc y]; exact codeAt_lt g hg _
  sl_for (invH g d L c) $$ [Hc' Hh]
  case region =>
    intro k _
    unfold invH
    iintro ⟨Hc, %f, %hf, Hh⟩
    sl_exec
    unfold tile_body.sl.v13
    rw [wp_assume_of _ _ _ _ (trip_chk (F := F) k c hc256)]
    ihave Hh' := (Entails.of_eq ((pts_sH (F := F) d L f).trans (pts_sH_whole (F := F) d L f).symm)) $$ Hh
    iapply (SparseCore.wp_vectorStoreIdx 𝒱₀ (V d (cV L) (jV L)) none Set.univ (base := (sH : Memref sig .scVector .vmem S4096 .f32))) $$ Hh'
    iintro Hh
    rw [Memref.read_access_whole, Memref.write_access_whole_univ]
    ihave Hh' := (Entails.of_eq ((pts_sH_whole (F := F) d L _).trans (pts_sH (F := F) d L _).symm)) $$ Hh
    sl_step
    isplitl [Hc]; · iexact Hc
    iexists _; isplitr [Hh']
    rotate_left
    · iexact Hh'
    · ipureintro
      exact trip_counts k c hc256 _ hc f hf _
  · unfold invH
    isplitl [Hc']; · iexact Hc'
    iexists fz; isplitr [Hh]
    · ipureintro; intro j
      rw [hits_zero, tally_zero]
      refine hz j ?_
      have h1 : (j 0).val < 4096 := (j 0).isLt
      have h2 := trips_clear
      omega
    · iexact Hh
  iintro %_ HI
  unfold invH
  icases HI with ⟨Hc, %f, %hf, Hh⟩
  rw [trips_count] at hf
  sl_exec (disch := exact View.amount_pos _ _ (show 0 < S4096.numel by decide))
  sl_step
  rw [show (tile_body.sl.dma0_1 d L f : S4096.Idx → F .f32) = f from rfl]
  isplitl [Hx' Ho']
  · isplitl [Hx']; · iapply (Entails.of_eq (pts_xK (F := F) d L _)); iexact Hx'
    iapply (Entails.of_eq (pts_row g d L fo f hf))
    iexact Ho'
  isplitl [Hc Hh Hbufs]
  · isplitl [Hc]; · iexists _; iexact Hc
    isplitl [Hh]; · iexists _; iexact Hh
    iexact Hbufs
  isplitl [HsemA HsemB Hsems]
  · isplitl [HsemA]; · iexact HsemA
    isplitl [HsemB]; · iexact HsemB
    iexact Hsems
  iexists (insert (SemLoc.dma cc1_scoped1.sem, (default : HIx 1)) (insert (SemLoc.dma cc1_scoped0.sem, (default : HIx 1)) W)); isplitr
  · ipureintro
    exact fun p hp => by
      rcases p.2 with _ | q
      · exact .inr (.inl rfl)
      · exact .inr (.inr (congrArg some (Subsingleton.elim q 0)))
  · iexact HO

end Tile

end Cert.KernelIdealRun

end
-- ==== Proof.KernelIdealCodes.lean ====
/-
  The first TensorCore call of the kernel, on one block: the grey image of one picture, its eight shifted copies out of a padded scratch, and
  the code of every pixel. Stated for any float instance; the codes are given outright.
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.WritesUnit
public import Idealize.ShloMosaic.Lib.Pipeline.ValueKit
public import proofs.«01_k».proof.Proof.KernelIdealTrip

@[expose] public section

set_option maxRecDepth 16384

noncomputable section

namespace Cert.KernelIdealRun

open Cert.KernelIdeal Cert.KernelIdeal.Gen Cert.Lbp

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## What the block computes -/

/-- Channel `k` of a block of one picture, as the body loads it. -/
def chan (x : Vec F S1x3x512x512 .f32) (k : Fin 3) : Vec F S1x1x512x512 .f32 := fun j => x fun
  | 0 => j 0
  | 1 => k
  | 2 => j 2
  | 3 => j 3
  | ⟨_ + 4, h⟩ => absurd h (Nat.not_lt.2 (Nat.le_add_left _ _))

/-- The grey picture of the block. -/
def gray (x : Vec F S1x3x512x512 .f32) : FVec F S512x512 .f32 := k0_pay2 (chan x 0) (chan x 1) (chan x 2)

/-- The grey picture with one pixel of zeros around it. -/
def padded (g : FVec F S512x512 .f32) : FVec F S514x514 .f32 := fun y =>
  if h : (1 ≤ (y 0).val ∧ (y 0).val < 513) ∧ (1 ≤ (y 1).val ∧ (y 1).val < 513) then
    g fun
      | 0 => ⟨(y 0).val - 1, by have := h.1; show _ < 512; omega⟩
      | 1 => ⟨(y 1).val - 1, by have := h.2; show _ < 512; omega⟩
      | ⟨_ + 2, h⟩ => absurd h (Nat.not_lt.2 (Nat.le_add_left _ _))
  else Scalar.ofBits .f32 0x00000000#32

/-- The 512 x 512 window of a padded picture that starts at row `a`, column `b`. -/
def shifted (p : FVec F S514x514 .f32) (a b : Fin 3) : FVec F S512x512 .f32 := fun y => p fun
  | 0 => ⟨a.val + (y 0).val, by have : (y 0).val < 512 := (y 0).isLt; show _ < 514; omega⟩
  | 1 => ⟨b.val + (y 1).val, by have : (y 1).val < 512 := (y 1).isLt; show _ < 514; omega⟩
  | ⟨_ + 2, h⟩ => absurd h (Nat.not_lt.2 (Nat.le_add_left _ _))

/-- The codes of a block of one picture. -/
def codesBlk (x : Vec F S1x3x512x512 .f32) : IVec S1x512x512 32 :=
  let p := padded (gray x)
  k0_pay1 (gray x)
    (k0_pay6 (gray x) (k0_pay5 (chan x 0) (chan x 1) (chan x 2) (shifted p 0 2)) (shifted p 1 2) (shifted p 2 2) (shifted p 2 1) (shifted p 2 0)
      (shifted p 1 0) (shifted p 0 0)) (shifted p 0 1)

/-! ## What the loads read -/

omit [FloatOps F] in
/-- The load of channel `k` of the block. -/
theorem load_chan (M0 : Memref sig .tc .vmem S1x3x512x512 .f32) (f0 : M0.view.ty.Contents (Elt F)) (k : Fin 3) {off : Fin 4 → ℕ}
    (inb : ∀ a, off a + S1x1x512x512.size a ≤ S1x3x512x512.size a) (hoff : off = ![0, k.val, 0, 0]) :
    M0.view.readAt (Elt F) (Rect.unit (s := S1x3x512x512) off S1x1x512x512.size inb).toLoadRect f0 = chan (M0.view.read (Elt F) f0) k := by
  subst hoff
  funext j
  refine congrArg (M0.view.read (Elt F) f0) ?_
  funext a
  apply Fin.ext
  refine (ValueKit.rect_emb_unit_val (s := S1x3x512x512) _ S1x1x512x512.size inb j a).trans ?_
  have h1 : (j 1).val < 1 := (j 1).isLt
  fin_cases a
  · show 0 + (j 0).val = (j 0).val
    omega
  · show k.val + (j 1).val = k.val
    omega
  · show 0 + (j 2).val = (j 2).val
    omega
  · show 0 + (j 3).val = (j 3).val
    omega

omit [FloatOps F] in
/-- A load from the scratch at row `a`, column `b`, after zeros were written all over it and then a picture in the middle: it reads the
    window of the padded picture that starts there. -/
theorem load_shifted (M2 : Memref sig .tc .vmem S514x514 .f32) (f2 : M2.view.ty.Contents (Elt F)) (g : FVec F S512x512 .f32)
    (z : FVec F S514x514 .f32) (p : FVec F S514x514 .f32) (inbg : ∀ a, (![1, 1] : Fin 2 → ℕ) a + S512x512.size a ≤ S514x514.size a)
    (inbz : ∀ a, (![0, 0] : Fin 2 → ℕ) a + S514x514.size a ≤ S514x514.size a)
    (hin : ∀ (y : S514x514.Idx) (x : S512x512.Idx), (∀ a, (y a).val = 1 + (x a).val) → p y = g x)
    (hout : ∀ (y : S514x514.Idx) (a : Fin 2), (y a).val < 1 ∨ 513 ≤ (y a).val → p y = z y)
    (a b : Fin 3) {off : Fin 2 → ℕ} (inb : ∀ a, off a + S512x512.size a ≤ S514x514.size a) (hoff : off = ![a.val, b.val]) :
    M2.view.readAt (Elt F) (Rect.unit (s := S514x514) off S512x512.size inb).toLoadRect
        (M2.view.writes (Elt F) f2 [⟨Rect.unit ![1, 1] S512x512.size inbg, g⟩, ⟨Rect.unit ![0, 0] S514x514.size inbz, z⟩])
      = shifted p a b := by
  subst hoff
  funext j
  have hy : ∀ c : Fin 2, ((Rect.unit (s := S514x514) ![a.val, b.val] S512x512.size inb).emb j c).val = (![a.val, b.val] : Fin 2 → ℕ) c + (j c).val :=
    fun c => ValueKit.rect_emb_unit_val (s := S514x514) _ S512x512.size inb j c
  have hsh : shifted p a b j = p ((Rect.unit (s := S514x514) ![a.val, b.val] S512x512.size inb).emb j) := by
    refine congrArg p ?_
    funext c
    apply Fin.ext
    rw [hy]
    fin_cases c <;> rfl
  rw [hsh]
  show M2.view.read (Elt F) _ ((Rect.unit (s := S514x514) ![a.val, b.val] S512x512.size inb).emb j) = _
  generalize (Rect.unit (s := S514x514) ![a.val, b.val] S512x512.size inb).emb j = y
  by_cases h : ∀ c : Fin 2, 1 ≤ (y c).val ∧ (y c).val < 513
  · have hx : ∀ c : Fin 2, (y c).val - 1 < S512x512.size c := fun c => by
      have := h c
      have e : S512x512.size c = 512 := by fin_cases c <;> rfl
      omega
    have hx' : ∀ c : Fin 2, (y c).val = 1 + (y c).val - 1 := fun c => by omega
    refine (View.read_writes_cons_unit_of_mem M2.view f2 (off := ![1, 1]) inbg g _ y (fun c => ⟨(y c).val - 1, hx c⟩) rfl (fun c => ?_)).trans
      (hin y _ fun c => ?_).symm
    · have := h c
      have e : (![1, 1] : Fin 2 → ℕ) c = 1 := by fin_cases c <;> rfl
      show (y c).val = (![1, 1] : Fin 2 → ℕ) c + ((y c).val - 1)
      omega
    · have := h c
      show (y c).val = 1 + ((y c).val - 1)
      omega
  · obtain ⟨c, hc⟩ := not_forall.mp h
    have e : (![1, 1] : Fin 2 → ℕ) c = 1 := by fin_cases c <;> rfl
    have e' : S512x512.size c = 512 := by fin_cases c <;> rfl
    have hc' : (y c).val < 1 ∨ 513 ≤ (y c).val := by omega
    refine (View.read_writes_cons_unit_of_not_mem M2.view f2 (off := ![1, 1]) inbg g _ y rfl c (by omega)).trans ?_
    refine (View.read_writes_cons_unit_of_mem M2.view f2 (off := ![0, 0]) inbz z _ y y rfl (fun c => ?_)).trans (hout y c hc').symm
    have e : (![0, 0] : Fin 2 → ℕ) c = 0 := by fin_cases c <;> rfl
    omega

/-- Where a padded picture holds the picture. -/
theorem padded_in (g : FVec F S512x512 .f32) (y : S514x514.Idx) (x : S512x512.Idx) (h : ∀ a, (y a).val = 1 + (x a).val) :
    padded g y = g x := by
  have h0 := h 0
  have h1 := h 1
  have l0 : (x 0).val < 512 := (x 0).isLt
  have l1 : (x 1).val < 512 := (x 1).isLt
  unfold padded
  rw [dif_pos ⟨⟨by omega, by omega⟩, ⟨by omega, by omega⟩⟩]
  refine congrArg g ?_
  funext a
  apply Fin.ext
  fin_cases a
  · show (y 0).val - 1 = (x 0).val
    omega
  · show (y 1).val - 1 = (x 1).val
    omega

/-- Where a padded picture holds zero. -/
theorem padded_out (g : FVec F S512x512 .f32) (y : S514x514.Idx) (a : Fin 2) (h : (y a).val < 1 ∨ 513 ≤ (y a).val) :
    padded g y = k0_pay3 (F := F) y := by
  unfold padded
  rw [dif_neg]
  · rfl
  · rintro ⟨h0, h1⟩
    fin_cases a
    · change (y 0).val < 1 ∨ 513 ≤ (y 0).val at h
      omega
    · change (y 1).val < 1 ∨ 513 ≤ (y 1).val at h
      omega

/-! ## The body -/

/-- The body, from the block's picture, the result's staging buffer and the scratch, leaves the picture and writes its codes. -/
theorem codes_body (c : Dev nD) (i : grid0.Coords) (M0 : Memref sig .tc .vmem S1x3x512x512 .f32) (h0 : M0.IsWhole)
    (M1 : Memref sig .tc .vmem S1x512x512 .i32) (h1 : M1.IsWhole) (M2 : Memref sig .tc .vmem S514x514 .f32) (h2 : M2.IsWhole)
    (f0 : Buf (Elt F) (M0.view.loc (T c))) (f1 : Buf (Elt F) (M1.view.loc (T c)))
    (f2 : Buf (Elt F) (M2.view.loc (T c))) (E : Set ℕ) (Q : PUnit → sProp 𝕄) :
    iprop((M0.view.loc (T c) ↦{fullShare} f0) ∗ (M1.view.loc (T c) ↦{fullShare} f1)
        ∗ (M2.view.loc (T c) ↦{fullShare} f2)
        ∗ (iprop((M0.view.loc (T c) ↦{fullShare} f0)
            ∗ (∃ g1, ⌜M1.view.read (Elt F) g1 = codesBlk (M0.view.read (Elt F) f0)⌝ ∗ (M1.view.loc (T c) ↦{fullShare} g1))
            ∗ (∃ g2, M2.view.loc (T c) ↦{fullShare} g2)) -∗ Q ⟨⟩))
      ⊢ wp frame (wpE (defs₀ (F := F)) 𝒱₀ (T c) none) E (cc0__codes_body i M0 h0 M1 h1 M2 h2) Q := by
  iintro ⟨H0, H1, H2, Hk⟩
  rw [cc0__codes_body_eq_skeleton]
  unfold cc0__codes_body_skel
  rw [k0_part1_eq_skeleton, k0_part2_eq_skeleton]
  unfold k0_part1_skel k0_part2_skel
  sl_exec!
  sl_step
  iapply Hk
  isplitl [H0]; · iexact H0
  isplitr [H2]
  · iexists M1.view.writes (Elt F) M1.view.junk (codes_body.sl.H1_1 c M0 M2 f0)
    isplitr
    · ipureintro
      unfold codes_body.sl.H1_1
      have c0 := load_chan M0 f0 0 inb_S1x3x512x512_S1x1x512x512_0_0_0_0 rfl
      have c1 := load_chan M0 f0 1 inb_S1x3x512x512_S1x1x512x512_0_1_0_0 rfl
      have c2 := load_chan M0 f0 2 inb_S1x3x512x512_S1x1x512x512_0_2_0_0 rfl
      have hsh : ∀ (a b : Fin 3) {off : Fin 2 → ℕ} (inb : ∀ a, off a + S512x512.size a ≤ S514x514.size a) (hoff : off = ![a.val, b.val]),
          M2.view.readAt (Elt F) (Rect.unit (s := S514x514) off S512x512.size inb).toLoadRect
            (M2.view.writes (Elt F) M2.view.junk (codes_body.sl.H2_2 c M0 f0)) = shifted (padded (gray (M0.view.read (Elt F) f0))) a b := by
        intro a b off inb hoff
        unfold codes_body.sl.H2_2 k0_pay4
        rw [c0, c1, c2, shapeCast_self]
        exact load_shifted M2 _ _ _ _ _ _ (padded_in _) (padded_out _) a b inb hoff
      have v24 : codes_body.sl.v24 c M0 M2 f0 = shifted (padded (gray (M0.view.read (Elt F) f0))) 0 2 := hsh 0 2 _ rfl
      have v30 : codes_body.sl.v30 c M0 M2 f0 = shifted (padded (gray (M0.view.read (Elt F) f0))) 1 2 := hsh 1 2 _ rfl
      have v36 : codes_body.sl.v36 c M0 M2 f0 = shifted (padded (gray (M0.view.read (Elt F) f0))) 2 2 := hsh 2 2 _ rfl
      have v42 : codes_body.sl.v42 c M0 M2 f0 = shifted (padded (gray (M0.view.read (Elt F) f0))) 2 1 := hsh 2 1 _ rfl
      have v48 : codes_body.sl.v48 c M0 M2 f0 = shifted (padded (gray (M0.view.read (Elt F) f0))) 2 0 := hsh 2 0 _ rfl
      have v54 : codes_body.sl.v54 c M0 M2 f0 = shifted (padded (gray (M0.view.read (Elt F) f0))) 1 0 := hsh 1 0 _ rfl
      have v60 : codes_body.sl.v60 c M0 M2 f0 = shifted (padded (gray (M0.view.read (Elt F) f0))) 0 0 := hsh 0 0 _ rfl
      have v66 : codes_body.sl.v66 c M0 M2 f0 = shifted (padded (gray (M0.view.read (Elt F) f0))) 0 1 := hsh 0 1 _ rfl
      rw [c0, c1, c2, v24, v30, v36, v42, v48, v54, v60, v66]
      funext y
      refine (View.read_writes_cons_unit_of_mem M1.view _ (off := ![0, 0, 0]) inb_S1x512x512_S1x512x512_0_0_0 _ _ y y rfl (fun c => ?_)).trans rfl
      fin_cases c <;> exact (Nat.zero_add _).symm
    · iexact H1
  · iexists _
    iexact H2

/-- The same with the two staging buffers held as the pipeline holds them. -/
theorem codes_body_owns (c : Dev nD) (i : grid0.Coords) (M0 : Memref sig .tc .vmem S1x3x512x512 .f32) (h0 : M0.IsWhole)
    (M1 : Memref sig .tc .vmem S1x512x512 .i32) (h1 : M1.IsWhole) (M2 : Memref sig .tc .vmem S514x514 .f32) (h2 : M2.IsWhole)
    (X : Vec F S1x3x512x512 .f32) (E : Set ℕ) (Q : PUnit → sProp 𝕄) :
    iprop(owns (T c) M0 fullShare X ∗ (∃ Y, owns (T c) M1 fullShare Y) ∗ (∃ f2, M2.view.loc (T c) ↦{fullShare} f2)
        ∗ (iprop(owns (T c) M0 fullShare X ∗ owns (T c) M1 fullShare (codesBlk X) ∗ (∃ g2, M2.view.loc (T c) ↦{fullShare} g2)) -∗ Q ⟨⟩))
      ⊢ wp frame (wpE (defs₀ (F := F)) 𝒱₀ (T c) none) E (cc0__codes_body i M0 h0 M1 h1 M2 h2) Q := by
  unfold owns
  rw [h0.set_eq_univ, h1.set_eq_univ]
  iintro ⟨⟨%f0, %hf0, H0⟩, ⟨%Y, %f1, -, H1⟩, ⟨%f2, H2⟩, Hk⟩
  subst hf0
  iapply (codes_body c i M0 h0 M1 h1 M2 h2 f0 f1 f2 E Q)
  isplitl [H0]; · iexact H0
  isplitl [H1]; · iexact H1
  isplitl [H2]; · iexact H2
  iintro ⟨H0, ⟨%g1, %hg1, H1⟩, H2⟩
  iapply Hk
  isplitl [H0]
  · iexists f0; isplitr; · ipureintro; rfl
    iexact H0
  isplitl [H1]
  · iexists g1; isplitr; · ipureintro; exact hg1
    iexact H1
  · iexact H2

end Cert.KernelIdealRun

end
-- ==== Proof.KernelIdealFinal.lean ====
/-
  The last TensorCore call of the kernel: the column sums of the counts, less their mean, over their standard deviation.
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.WritesUnit
public import Idealize.ShloMosaic.Lib.Pipeline.ValueKit
public import proofs.«01_k».proof.Proof.KernelIdealTrip

@[expose] public section

set_option maxRecDepth 16384

noncomputable section

namespace Cert.KernelIdealRun

open Cert.KernelIdeal Cert.KernelIdeal.Gen Cert.Lbp

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- What the call computes from its counts. -/
abbrev finBlk (x : Vec F S512x256 .f32) : FVec F S1x256 .f32 := k2_pay1 x

/-- The body, from the counts and the result's staging buffer, leaves the counts and writes the scaled column sums. -/
theorem fin_body (c : Dev nD) (M0 : Memref sig .tc .vmem S512x256 .f32) (h0 : M0.IsWhole)
    (M1 : Memref sig .tc .vmem S1x256 .f32) (h1 : M1.IsWhole)
    (f0 : Buf (Elt F) (M0.view.loc (T c))) (f1 : Buf (Elt F) (M1.view.loc (T c))) (E : Set ℕ) (Q : PUnit → sProp 𝕄) :
    iprop((M0.view.loc (T c) ↦{fullShare} f0) ∗ (M1.view.loc (T c) ↦{fullShare} f1)
        ∗ (iprop((M0.view.loc (T c) ↦{fullShare} f0)
            ∗ (∃ g1, ⌜M1.view.read (Elt F) g1 = finBlk (M0.view.read (Elt F) f0)⌝ ∗ (M1.view.loc (T c) ↦{fullShare} g1))) -∗ Q ⟨⟩))
      ⊢ wp frame (wpE (defs₀ (F := F)) 𝒱₀ (T c) none) E (cc2__finalize_body M0 h0 M1 h1) Q := by
  iintro ⟨H0, H1, Hk⟩
  rw [cc2__finalize_body_eq_skeleton]
  unfold cc2__finalize_body_skel
  sl_exec!
  sl_step
  iapply Hk
  isplitl [H0]; · iexact H0
  iexists M1.view.writes (Elt F) M1.view.junk (fin_body.sl.H1_1 c M0 f0)
  isplitr
  · ipureintro
    unfold fin_body.sl.H1_1
    have hl : M0.view.readAt (Elt F) (Rect.unit (s := S512x256) ![0, 0] S512x256.size inb_S512x256_S512x256_0_0).toLoadRect f0
        = M0.view.read (Elt F) f0 := by
      funext j
      refine congrArg (M0.view.read (Elt F) f0) ?_
      funext a
      apply Fin.ext
      refine (ValueKit.rect_emb_unit_val (s := S512x256) _ S512x256.size inb_S512x256_S512x256_0_0 j a).trans ?_
      fin_cases a <;> exact Nat.zero_add _
    rw [hl]
    funext y
    refine (View.read_writes_cons_unit_of_mem M1.view _ (off := ![0, 0]) inb_S1x256_S1x256_0_0 _ _ y y rfl (fun c => ?_)).trans rfl
    fin_cases c <;> exact (Nat.zero_add _).symm
  · iexact H1

/-- The same with the two staging buffers held as the pipeline holds them. -/
theorem fin_body_owns (c : Dev nD) (M0 : Memref sig .tc .vmem S512x256 .f32) (h0 : M0.IsWhole)
    (M1 : Memref sig .tc .vmem S1x256 .f32) (h1 : M1.IsWhole) (X : Vec F S512x256 .f32) (E : Set ℕ) (Q : PUnit → sProp 𝕄) :
    iprop(owns (T c) M0 fullShare X ∗ (∃ Y, owns (T c) M1 fullShare Y)
        ∗ (iprop(owns (T c) M0 fullShare X ∗ owns (T c) M1 fullShare (finBlk X)) -∗ Q ⟨⟩))
      ⊢ wp frame (wpE (defs₀ (F := F)) 𝒱₀ (T c) none) E (cc2__finalize_body M0 h0 M1 h1) Q := by
  unfold owns
  rw [h0.set_eq_univ, h1.set_eq_univ]
  iintro ⟨⟨%f0, %hf0, H0⟩, ⟨%Y, %f1, -, H1⟩, Hk⟩
  subst hf0
  iapply (fin_body c M0 h0 M1 h1 f0 f1 E Q)
  isplitl [H0]; · iexact H0
  isplitl [H1]; · iexact H1
  iintro ⟨H0, ⟨%g1, %hg1, H1⟩⟩
  iapply Hk
  isplitl [H0]
  · iexists f0; isplitr; · ipureintro; rfl
    iexact H0
  · iexists g1; isplitr; · ipureintro; exact hg1
    iexact H1

end Cert.KernelIdealRun

end
-- ==== Proof.KernelIdealRegions.lean ====
/-
  The two TensorCore calls of the kernel as regions of its main program: the codes of the eight pictures, and the final scaling of the counts.
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.WritesUnit
public import Idealize.ShloMosaic.Lib.Pipeline.ValueKit
public import proofs.«01_k».proof.Proof.KernelIdealCodes
public import proofs.«01_k».proof.Proof.KernelIdealFinal

@[expose] public section

set_option maxRecDepth 16384

noncomputable section

namespace Cert.KernelIdealRun

open Cert.KernelIdeal Cert.KernelIdeal.Gen Cert.Lbp

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig (HIx 1) (Elt F) ℕ UU ℕ

/-! ## The proof data of the two pipelines, at given contents of the arrays -/

variable (V : (c : Dev nD) → (b : Ref sig .tc) → Buf (Elt F) ((T c : Thread nD τ).loc b))

/-- The picture point `t` of the first call fetches. -/
abbrev stgA (c : Dev nD) (t : Fin cfg0.N) : Vec F S1x3x512x512 .f32 := ((cfg0.win 0).blk t).view.read (Elt F) (V c main_arg0)

/-- The counts the one point of the second call fetches. -/
abbrev stgB (c : Dev nD) (t : Fin cfg2.N) : Vec F S512x256 .f32 := ((cfg2.win 0).blk t).view.read (Elt F) (V c main_v3)

/-- What a core's waits may have recorded before the SparseCore call `n`. -/
abbrev below (c : Dev nD) (n : ℕ) : Set (SemLoc sig × HIx 1) := {p | (K (F := F)).lev (T c, p.1) p.2 ≤ 8 * n}

/-- The first call: the picture stays, the codes are written; the core still owes the start signals of the SparseCore call. -/
def dat0 (c : Dev nD) : Dat τ (Elt F) (HIx 1) ℕ UU ℕ cfg0 c where
  A w := V c (Pipeline.arrRef spec0 w)
  after w t := match w with
    | ⟨0, _⟩ => stgA V c t
    | ⟨1, _⟩ => codesBlk (stgA V c t)
  Φ _ := Pipeline.scopedRest (Ix := HIx 1) (Name := ℕ) (U := UU) (Lvl := ℕ) (Val := Elt F) spec0 c
  q _ := fullShare
  owed _ := (K (F := F)).Otc c 0
  recorded _ := below (F := F) c 0

/-- The second call: the counts stay, the scaled counts are written; nothing is owed any more. -/
def dat1 (c : Dev nD) : Dat τ (Elt F) (HIx 1) ℕ UU ℕ cfg2 c where
  A w := V c (Pipeline.arrRef spec2 w)
  after w t := match w with
    | ⟨0, _⟩ => stgB V c t
    | ⟨1, _⟩ => finBlk (stgB V c t)
  Φ _ := Pipeline.scopedRest (Ix := HIx 1) (Name := ℕ) (U := UU) (Lvl := ℕ) (Val := Elt F) spec2 c
  q _ := fullShare
  owed _ := (K (F := F)).Otc c 1
  recorded _ := below (F := F) c 1

/-- The two pipelines have no prefetched table. -/
abbrev adm : (p : Fin 2) → (pcfgs (F := F) p).Adm := fun p => (cfgs p).toPCfg_adm

/-- The proof data of both. -/
def pdats : (p : Fin 2) → (c : Dev nD) → Dat τ (Elt F) (HIx 1) ℕ UU ℕ (Pipeline.pin (pcfgs (F := F)) adm p) c
  | ⟨0, _⟩ => fun c => dat0 V c
  | ⟨1, _⟩ => fun c => dat1 V c

/-- Before a trip of the first call the input block is the staged one. -/
theorem before0 (c : Dev nD) (t : Fin cfg0.N) (d) : (dat0 V c).before 0 t d = stgA V c t :=
  ((dat0 V c).before_fetched 0 t (fetch0_0 t) d).trans rfl

/-- Before the trip of the last call the input block is the staged one. -/
theorem before1 (c : Dev nD) (t : Fin cfg2.N) (d) : (dat1 V c).before 0 t d = stgB V c t :=
  ((dat1 V c).before_fetched 0 t (fetch2_0 t) d).trans rfl

/-- The first call's body at every point. -/
theorem obligation0 (c : Dev nD) : BodyObligation (dat0 V c) (defs₀ (F := F)) 𝒱₀ none Set.univ := fun t => by
  rw [bigSep_W0, bigSep_W0]
  rw [show (dat0 V c).owesAt none t.succ = (dat0 V c).owesAt none t.castSucc from rfl]
  rw [show (dat0 V c).Φ t.castSucc = _ from scopedRest0_eq c, show (dat0 V c).Φ t.succ = _ from scopedRest0_eq c]
  change _ ⊢ wp frame _ _ (bodyAt0 t) _
  iintro ⟨⟨HS, HR⟩, Howes, ⟨%d0, H0⟩, ⟨%d1, H1⟩⟩
  rw [before0]
  iapply (codes_body_owns c (grid0.coords t) _ _ _ _ _ _ (stgA V c t) Set.univ _)
  isplitl [H0]; · iexact H0
  isplitl [H1]; · iexists _; iexact H1
  isplitl [HS]; · iexact HS
  iintro ⟨H0, H1, HS⟩
  isplitl [HS HR]
  · isplitl [HS] <;> iassumption
  isplitl [Howes]; · iexact Howes
  isplitl [H0]
  · iexact H0
  · iexact H1

/-- The second call's body at its one point. -/
theorem obligation1 (c : Dev nD) : BodyObligation (dat1 V c) (defs₀ (F := F)) 𝒱₀ none Set.univ := fun t => by
  obtain rfl := fin_N2 t
  rw [bigSep_W2, bigSep_W2]
  rw [show (dat1 V c).owesAt none t2_0.succ = (dat1 V c).owesAt none t2_0.castSucc from rfl]
  rw [show (dat1 V c).Φ t2_0.castSucc = _ from scopedRest2_eq c, show (dat1 V c).Φ t2_0.succ = _ from scopedRest2_eq c]
  change _ ⊢ wp frame _ _ (bodyAt2 t2_0) _
  iintro ⟨HR, Howes, ⟨%d0, H0⟩, ⟨%d1, H1⟩⟩
  rw [before1]
  iapply (fin_body_owns c _ _ _ _ (stgB V c t2_0) Set.univ _)
  isplitl [H0]; · iexact H0
  isplitl [H1]; · iexists _; iexact H1
  iintro ⟨H0, H1⟩
  isplitl [HR]; · iexact HR
  isplitl [Howes]; · iexact Howes
  isplitl [H0]
  · iexact H0
  · iexact H1

/-! ## What the calls leave in their arrays -/

/-- The codes of the eight pictures. -/
def codes (img : FVec F S8x3x512x512 .f32) : IVec S8x512x512 32 := fun y =>
  codesBlk (fun j => img fun
      | 0 => y 0
      | 1 => j 1
      | 2 => j 2
      | 3 => j 3
      | ⟨_ + 4, h⟩ => absurd h (Nat.not_lt.2 (Nat.le_add_left _ _)))
    fun
      | 0 => ⟨0, Nat.one_pos⟩
      | 1 => y 1
      | 2 => y 2
      | ⟨_ + 3, h⟩ => absurd h (Nat.not_lt.2 (Nat.le_add_left _ _))

/-- Where the block of point `t` starts, in the pictures and in the codes. -/
theorem start0 (t : Fin cfg0.N) :
    (∀ a : Fin 4, win0_0.index t a * win0_0.size a = (![t.val, 0, 0, 0] : Fin 4 → ℕ) a)
      ∧ (∀ a : Fin 3, win0_1.index t a * win0_1.size a = (![t.val, 0, 0] : Fin 3 → ℕ) a)
      ∧ (∀ a : Fin 3, win0_1.xsize (grid0.coords t) a = (![1, 512, 512] : Fin 3 → ℕ) a) := by
  rcases fin_N0 t with rfl | rfl | rfl | rfl | rfl | rfl | rfl | rfl <;> decide +kernel

/-- What a trip of the first call writes back is the block of codes. -/
theorem flushed0 (c : Dev nD) (t : Fin cfg0.N) :
    (dat0 V c).flushed 1 t = ((cfg0.win 1).blk t).view.read (Elt F) (codes (V c main_arg0)) := by
  show (cfg0.win 1).cut (grid0.coords t) ((dat0 V c).after 1 t) = _
  funext z
  have e1 : ∀ a : Fin 3, ((win0_1.rect t).emb z a).val = (![t.val, 0, 0] : Fin 3 → ℕ) a + (z a).val := fun a =>
    (ValueKit.rect_emb_unit_val (s := S8x512x512) _ _ _ z a).trans (congrArg (· + (z a).val) ((start0 t).2.1 a))
  have e0 : ∀ (j : S1x3x512x512.Idx) (a : Fin 4), ((win0_0.rect t).emb j a).val = (![t.val, 0, 0, 0] : Fin 4 → ℕ) a + (j a).val := fun j a =>
    (ValueKit.rect_emb_unit_val (s := S8x3x512x512) _ _ _ j a).trans (congrArg (· + (j a).val) ((start0 t).1 a))
  have hr : ((cfg0.win 1).blk t).view.read (Elt F) (codes (V c main_arg0)) z = codes (V c main_arg0) ((win0_1.rect t).emb z) := rfl
  have hs : ∀ j, stgA V c t j = (V c main_arg0 : FVec F S8x3x512x512 .f32) ((win0_0.rect t).emb j) := fun j => rfl
  rw [hr]
  show codesBlk (stgA V c t) z = _
  unfold codes
  have hz0 : (z 0).val < 1 := (z 0).isLt
  refine congr (congrArg codesBlk (funext fun j => (hs j).trans (congrArg (V c main_arg0 : FVec F S8x3x512x512 .f32) ?_))) ?_
  · have hj0 : (j 0).val < 1 := (j 0).isLt
    funext a
    apply Fin.ext
    refine (e0 j a).trans ?_
    fin_cases a
    · show t.val + (j 0).val = ((win0_1.rect t).emb z 0).val
      refine Eq.trans ?_ (e1 0).symm
      show t.val + (j 0).val = t.val + (z 0).val
      omega
    · exact Nat.zero_add _
    · exact Nat.zero_add _
    · exact Nat.zero_add _
  · funext a
    apply Fin.ext
    fin_cases a
    · show (z 0).val = 0
      omega
    · exact ((e1 1).trans (Nat.zero_add _)).symm
    · exact ((e1 2).trans (Nat.zero_add _)).symm

/-- Every code is in the block of its picture. -/
theorem cover0 (i : S8x512x512.Idx) : ∃ t : Fin cfg0.N, (cfg0.win 1).flush t = true ∧ i ∈ ((cfg0.win 1).blk t).view.set := by
  have h0 : (i 0).val < 8 := (i 0).isLt
  have h1 : (i 1).val < 512 := (i 1).isLt
  have h2 : (i 2).val < 512 := (i 2).isLt
  let t : Fin cfg0.N := ⟨(i 0).val, by rw [show cfg0.N = 8 from N_0]; exact h0⟩
  refine ⟨t, flush0_1 _, ?_⟩
  show i ∈ ((View.whole main_v0).slice (win0_1.rect t)).set
  rw [View.set_slice_whole, Rect.mem_set_unit]
  intro a
  have ho : win0_1.kind.off (win0_1.index t a) (win0_1.size a) = (![t.val, 0, 0] : Fin 3 → ℕ) a := (start0 t).2.1 a
  have hx : win0_1.xsize (grid0.coords t) a = (![1, 512, 512] : Fin 3 → ℕ) a := (start0 t).2.2 a
  constructor
  · refine ho.le.trans ?_
    fin_cases a
    · exact le_refl (i 0).val
    · exact Nat.zero_le _
    · exact Nat.zero_le _
  · refine lt_of_lt_of_eq ?_ (congrArg₂ (· + ·) ho hx).symm
    fin_cases a
    · exact Nat.lt_succ_self (i 0).val
    · show (i 1).val < 0 + 512
      omega
    · show (i 2).val < 0 + 512
      omega

/-- The first call leaves the codes of its pictures. -/
theorem final0 (c : Dev nD) : (dat0 V c).arrAt 1 cfg0.N = codes (V c main_arg0) :=
  (dat0 V c).arrAt_eq_of_cover 1 (codes (V c main_arg0)) (fun t _ => flushed0 V c t) cover0

/-- The last call's blocks start at the arrays' starts. -/
theorem start1 :
    (∀ a : Fin 2, win2_0.index t2_0 a * win2_0.size a = 0) ∧ (∀ a : Fin 2, win2_1.index t2_0 a * win2_1.size a = 0)
      ∧ (∀ a : Fin 2, win2_1.xsize (grid2.coords t2_0) a = (![1, 256] : Fin 2 → ℕ) a) := by
  decide +kernel

/-- What the last call writes back is the scaled counts. -/
theorem flushed1 (c : Dev nD) (t : Fin cfg2.N) :
    (dat1 V c).flushed 1 t = ((cfg2.win 1).blk t).view.read (Elt F) (finBlk (V c main_v3)) := by
  obtain rfl := fin_N2 t
  show (cfg2.win 1).cut (grid2.coords t2_0) ((dat1 V c).after 1 t2_0) = _
  funext z
  have e1 : ∀ a : Fin 2, ((win2_1.rect t2_0).emb z a).val = (z a).val := fun a =>
    (ValueKit.rect_emb_unit_val (s := S1x256) _ _ _ z a).trans ((congrArg (· + (z a).val) (start1.2.1 a)).trans (Nat.zero_add _))
  have e0 : ∀ (j : S512x256.Idx) (a : Fin 2), ((win2_0.rect t2_0).emb j a).val = (j a).val := fun j a =>
    (ValueKit.rect_emb_unit_val (s := S512x256) _ _ _ j a).trans ((congrArg (· + (j a).val) (start1.1 a)).trans (Nat.zero_add _))
  have hr : ((cfg2.win 1).blk t2_0).view.read (Elt F) (finBlk (V c main_v3)) z = finBlk (V c main_v3) ((win2_1.rect t2_0).emb z) := rfl
  have hs : ∀ j, stgB V c t2_0 j = (V c main_v3 : FVec F S512x256 .f32) ((win2_0.rect t2_0).emb j) := fun j => rfl
  rw [hr]
  show finBlk (stgB V c t2_0) z = _
  refine congr (congrArg (finBlk (F := F)) (funext fun j => (hs j).trans (congrArg (V c main_v3 : FVec F S512x256 .f32) ?_))) ?_
  · funext a
    exact Fin.ext (e0 j a)
  · funext a
    exact Fin.ext (e1 a).symm

/-- The last call's one block covers its result. -/
theorem cover1 (i : S1x256.Idx) : ∃ t : Fin cfg2.N, (cfg2.win 1).flush t = true ∧ i ∈ ((cfg2.win 1).blk t).view.set := by
  have h0 : (i 0).val < 1 := (i 0).isLt
  have h1 : (i 1).val < 256 := (i 1).isLt
  refine ⟨t2_0, flush2_1 _, ?_⟩
  show i ∈ ((View.whole main_v4).slice (win2_1.rect t2_0)).set
  rw [View.set_slice_whole, Rect.mem_set_unit]
  intro a
  have ho : win2_1.kind.off (win2_1.index t2_0 a) (win2_1.size a) = 0 := start1.2.1 a
  have hx : win2_1.xsize (grid2.coords t2_0) a = (![1, 256] : Fin 2 → ℕ) a := start1.2.2 a
  constructor
  · exact ho.le.trans (Nat.zero_le _)
  · refine lt_of_lt_of_eq ?_ (congrArg₂ (· + ·) ho hx).symm
    fin_cases a
    · show (i 0).val < 0 + 1
      omega
    · show (i 1).val < 0 + 256
      omega

/-- The second call leaves the scaled column sums. -/
theorem final1 (c : Dev nD) : (dat1 V c).arrAt 1 cfg2.N = finBlk (V c main_v3) :=
  (dat1 V c).arrAt_eq_of_cover 1 (finBlk (V c main_v3)) (fun t _ => flushed1 V c t) cover1

/-! ## The two calls as regions -/

/-- What the TensorCore owes before the SparseCore call `n`, whatever its waits recorded below that call. -/
abbrev owesTc (c : Dev nD) (n : ℕ) : sProp 𝕄 :=
  iprop(∃ W, ⌜(K (F := F)).WBelow (T c) W (8 * n)⌝ ∗ owes (T c) ((K (F := F)).Otc c n) W)

/-- What the thread owes, with the waits a TensorCore call may do. -/
theorem owes_in (c : Dev nD) (n : ℕ) (B : Set (SemLoc sig × HIx 1)) :
    (owesTc (F := F) c n : sProp 𝕄) ⊢ Pipeline.owesWithin c ((K (F := F)).Otc c n) (below (F := F) c n ∪ B) := by
  iintro ⟨%W, %hW, HO⟩
  iexists W
  isplitr
  · ipureintro
    exact fun p hp => Or.inl (hW p hp)
  · iexact HO

/-- What the thread owes, after a TensorCore call's waits. -/
theorem owes_out (c : Dev nD) (n : ℕ) (B : Set (SemLoc sig × HIx 1)) (hB : ∀ p ∈ B, p.2 = none) :
    (Pipeline.owesWithin c ((K (F := F)).Otc c n) (below (F := F) c n ∪ B) : sProp 𝕄) ⊢ owesTc (F := F) c n := by
  iintro ⟨%W, %hW, HO⟩
  iexists W
  isplitr
  · ipureintro
    intro p hp
    rcases hW hp with h | h
    · exact h
    · rw [hB p h]
      exact Nat.zero_le _
  · iexact HO

/-- The TensorCore owes nothing at a semaphore outside the handshakes. -/
theorem Otc_none (c : Dev nD) (n : ℕ) (g : GSem nD τ sig) : (K (F := F)).Otc c n g none = 0 := by
  by_contra h
  have := (K (F := F)).lev_of_Otc_pos (N := 1) (Nat.pos_of_ne_zero h)
  exact absurd this (by show ¬ (8 * n + 1 ≤ 0); omega)

set_option backward.isDefEq.respectTransparency.types false in
/-- The first call. -/
def reg0 : Pipeline.RegionSeg (pcfgs (F := F)) adm (pdats V) (none : HIx 1) defs₀ 𝒱₀ (K (F := F)).L (K (F := F)).lev 0 where
  win := (launch0).win.to₀
  block_pos := (launch0).block_pos
  stage_whole := (launch0).stage_whole
  K := PEmpty
  osem k := k.elim
  ho := Pipeline.OwnSemFacts.none _
  hbody c := (obligation0 V c).loose
  hwaits c := Pipeline.cellsWaits_intro _ _ _ _ _ fun w s t => (K (F := F)).mayWait_none _ (Otc_none c 0)
  pre c := iprop(((SparseCore.T c : Thread nD τ).loc main_arg0 ↦{fullShare} V c main_arg0) ∗ ((SparseCore.T c : Thread nD τ).loc main_v0 ↦{fullShare} V c main_v0) ∗ owesTc (F := F) c 0)
  post c := iprop(((SparseCore.T c : Thread nD τ).loc main_arg0 ↦{fullShare} V c main_arg0) ∗ ((SparseCore.T c : Thread nD τ).loc main_v0 ↦{fullShare} codes (V c main_arg0)) ∗ owesTc (F := F) c 0)
  X _ := BI.emp
  Y _ := BI.emp
  Z _ := BI.emp
  hentry c := by
    rw [Pipeline.ownSems0_none]
    have harr := Pipeline.arrays_eq (Pipeline.pin (pcfgs (F := F)) adm) (pdats V) 0 c (launch0).arr_whole ((pdats V 0 c).share_full fun _ => rfl)
      ((pdats V 0 c).arrAt · 0)
    rw [harr, bigSep_W0]
    iintro ⟨⟨Ha, Hv, HO⟩, -, -⟩
    imodintro
    isplitl [Ha Hv]
    · isplitl [Ha]
      · iexact Ha
      · iexact Hv
    isplitr; · unfold Pipeline.prefHeld; rw [show (Finset.univ : Finset (Fin 0)) = ∅ from rfl, BI.bigSep_empty]; iempintro
    isplitl [HO]
    · iapply (owes_in (F := F) c 0 _) $$ HO
    isplitr; · iempintro
    iempintro
  hin c := by
    rw [show (pdats V 0 c).Φ 0 = (Pipeline.scopedRest (Ix := HIx 1) (Name := ℕ) (U := UU) (Lvl := ℕ) (Val := Elt F) spec0 c) from rfl]
    iintro ⟨-, -, Hr⟩; iexact Hr
  hout c := by
    rw [Pipeline.ownSems0_none, show (pdats V 0 c).Φ (Fin.last _) = (Pipeline.scopedRest (Ix := HIx 1) (Name := ℕ) (U := UU) (Lvl := ℕ) (Val := Elt F) spec0 c) from rfl]
    iintro Hr
    isplitr; · iempintro
    isplitr; · iempintro
    iexact Hr
  hexit c := by
    have harr := Pipeline.arrays_eq (Pipeline.pin (pcfgs (F := F)) adm) (pdats V) 0 c (launch0).arr_whole ((pdats V 0 c).share_full fun _ => rfl)
      ((pdats V 0 c).arrAt · (Pipeline.pin (pcfgs (F := F)) adm 0).N)
    rw [harr, bigSep_W0]
    rw [show (pdats V 0 c).arrAt 0 (Pipeline.pin (pcfgs (F := F)) adm 0).N = V c main_arg0 from (dat0 V c).arrAt_in 0 rfl _,
      show (pdats V 0 c).arrAt 1 (Pipeline.pin (pcfgs (F := F)) adm 0).N = codes (V c main_arg0) from final0 V c]
    iintro ⟨⟨Ha, Hv⟩, HO, -, -⟩
    imodintro
    isplitl [Ha]; · iexact Ha
    isplitl [Hv]; · iexact Hv
    rw [show (pdats V 0 c).owesAt none (Fin.last (Pipeline.pin (pcfgs (F := F)) adm 0).N)
      = Pipeline.owesWithin c ((K (F := F)).Otc c 0) (below (F := F) c 0 ∪ Pipeline.Cfg.waitPairs cfg0 (none : HIx 1)) from rfl]
    exact (owes_out (F := F) c 0 (Pipeline.Cfg.waitPairs cfg0 (none : HIx 1)) (fun p hp => by obtain ⟨w, s, rfl⟩ := hp; rfl))

set_option backward.isDefEq.respectTransparency.types false in
/-- The second call. -/
def reg1 : Pipeline.RegionSeg (pcfgs (F := F)) adm (pdats V) (none : HIx 1) defs₀ 𝒱₀ (K (F := F)).L (K (F := F)).lev 1 where
  win := (launch2).win.to₀
  block_pos := (launch2).block_pos
  stage_whole := (launch2).stage_whole
  K := PEmpty
  osem k := k.elim
  ho := Pipeline.OwnSemFacts.none _
  hbody c := (obligation1 V c).loose
  hwaits c := Pipeline.cellsWaits_intro _ _ _ _ _ fun w s t => (K (F := F)).mayWait_none _ (Otc_none c 1)
  pre c := iprop(((SparseCore.T c : Thread nD τ).loc main_v3 ↦{fullShare} V c main_v3) ∗ ((SparseCore.T c : Thread nD τ).loc main_v4 ↦{fullShare} V c main_v4) ∗ owesTc (F := F) c 1)
  post c := iprop(((SparseCore.T c : Thread nD τ).loc main_v3 ↦{fullShare} V c main_v3) ∗ ((SparseCore.T c : Thread nD τ).loc main_v4 ↦{fullShare} finBlk (V c main_v3)) ∗ owesTc (F := F) c 1)
  X _ := BI.emp
  Y _ := BI.emp
  Z _ := BI.emp
  hentry c := by
    rw [Pipeline.ownSems0_none]
    have harr := Pipeline.arrays_eq (Pipeline.pin (pcfgs (F := F)) adm) (pdats V) 1 c (launch2).arr_whole ((pdats V 1 c).share_full fun _ => rfl)
      ((pdats V 1 c).arrAt · 0)
    rw [harr, bigSep_W2]
    iintro ⟨⟨Ha, Hv, HO⟩, -, -⟩
    imodintro
    isplitl [Ha Hv]
    · isplitl [Ha]
      · iexact Ha
      · iexact Hv
    isplitr; · unfold Pipeline.prefHeld; rw [show (Finset.univ : Finset (Fin 0)) = ∅ from rfl, BI.bigSep_empty]; iempintro
    isplitl [HO]
    · iapply (owes_in (F := F) c 1 _) $$ HO
    isplitr; · iempintro
    iempintro
  hin c := by
    rw [show (pdats V 1 c).Φ 0 = (Pipeline.scopedRest (Ix := HIx 1) (Name := ℕ) (U := UU) (Lvl := ℕ) (Val := Elt F) spec2 c) from rfl]
    iintro ⟨-, -, Hr⟩; iexact Hr
  hout c := by
    rw [Pipeline.ownSems0_none, show (pdats V 1 c).Φ (Fin.last _) = (Pipeline.scopedRest (Ix := HIx 1) (Name := ℕ) (U := UU) (Lvl := ℕ) (Val := Elt F) spec2 c) from rfl]
    iintro Hr
    isplitr; · iempintro
    isplitr; · iempintro
    iexact Hr
  hexit c := by
    have harr := Pipeline.arrays_eq (Pipeline.pin (pcfgs (F := F)) adm) (pdats V) 1 c (launch2).arr_whole ((pdats V 1 c).share_full fun _ => rfl)
      ((pdats V 1 c).arrAt · (Pipeline.pin (pcfgs (F := F)) adm 1).N)
    rw [harr, bigSep_W2]
    rw [show (pdats V 1 c).arrAt 0 (Pipeline.pin (pcfgs (F := F)) adm 1).N = V c main_v3 from (dat1 V c).arrAt_in 0 rfl _,
      show (pdats V 1 c).arrAt 1 (Pipeline.pin (pcfgs (F := F)) adm 1).N = finBlk (V c main_v3) from final1 V c]
    iintro ⟨⟨Ha, Hv⟩, HO, -, -⟩
    imodintro
    isplitl [Ha]; · iexact Ha
    isplitl [Hv]; · iexact Hv
    rw [show (pdats V 1 c).owesAt none (Fin.last (Pipeline.pin (pcfgs (F := F)) adm 1).N)
      = Pipeline.owesWithin c ((K (F := F)).Otc c 1) (below (F := F) c 1 ∪ Pipeline.Cfg.waitPairs cfg2 (none : HIx 1)) from rfl]
    exact (owes_out (F := F) c 1 (Pipeline.Cfg.waitPairs cfg2 (none : HIx 1)) (fun p hp => by obtain ⟨w, s, rfl⟩ := hp; rfl))

end Cert.KernelIdealRun

end
-- ==== Proof.KernelIdealWord.lean ====
/-
  The codes of the kernel, one at a time: eight comparisons' bits added up; below 256.
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.WritesUnit
public import Idealize.ShloMosaic.Lib.Pipeline.ValueKit
public import proofs.«01_k».proof.Proof.KernelIdealRegions

@[expose] public section

set_option maxRecDepth 16384

noncomputable section

namespace Cert.KernelIdealRun

open Cert.KernelIdeal Cert.KernelIdeal.Gen Cert.Lbp

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## One code -/

/-- The word `v` where the neighbour `p` is not below the pixel `q`, zero elsewhere. -/
def bitWord (p q : F .f32) (v : BitVec 32) : BitVec 32 := Scalar.select (FloatOps.cmpf .oge p q) v 0#32

/-- A code, from the pixel and its eight neighbours in the order of the bits. -/
def codeWord (q p0 p1 p2 p3 p4 p5 p6 p7 : F .f32) : BitVec 32 :=
  0#32 + bitWord p0 q 1#32 + bitWord p1 q 2#32 + bitWord p2 q 4#32 + bitWord p3 q 8#32 + bitWord p4 q 16#32 + bitWord p5 q 32#32
    + bitWord p6 q 64#32 + bitWord p7 q 128#32

/-- The pixel of a block's index. -/
def pix (y : S1x512x512.Idx) : S512x512.Idx
  | 0 => y 1
  | 1 => y 2
  | ⟨_ + 2, h⟩ => absurd h (Nat.not_lt.2 (Nat.le_add_left _ _))

/-- The code of a pixel of a block, as a sum of eight bits. -/
theorem codesBlk_apply (x : Vec F S1x3x512x512 .f32) (y : S1x512x512.Idx) :
    codesBlk x y = codeWord (gray x (pix y)) (shifted (padded (gray x)) 0 2 (pix y)) (shifted (padded (gray x)) 1 2 (pix y))
      (shifted (padded (gray x)) 2 2 (pix y)) (shifted (padded (gray x)) 2 1 (pix y)) (shifted (padded (gray x)) 2 0 (pix y))
      (shifted (padded (gray x)) 1 0 (pix y)) (shifted (padded (gray x)) 0 0 (pix y)) (shifted (padded (gray x)) 0 1 (pix y)) := by
  unfold codesBlk k0_pay1
  refine (shapeCast_apply _ shapeCasts_S512x512_S1x512x512 y (pix y) ?_).trans ?_
  case refine_2 =>
    have hg : k0_pay2 (chan x 0) (chan x 1) (chan x 2) = gray x := rfl
    unfold k0_pay6 k0_pay5 codeWord bitWord
    simp only [addi, select, cmpf, broadcast, IntOp.addi, hg]
  rw [Shape.rowMajor_val_two, Shape.rowMajor_val_three]
  have h0 : (y 0).val < 1 := (y 0).isLt
  show (y 1).val * 512 + (y 2).val = ((y 0).val * 512 + (y 1).val) * 512 + (y 2).val
  omega

/-- A bit's word as a number. -/
theorem bitWord_toNat (p q : F .f32) (v : BitVec 32) :
    (bitWord p q v).toNat = if FloatOps.cmpf .oge p q = 1#1 then v.toNat else 0 := by
  unfold bitWord Scalar.select
  by_cases h : FloatOps.cmpf .oge p q = 1#1
  · rw [if_pos h]
    exact congrArg BitVec.toNat (if_pos h)
  · rw [if_neg h]
    exact congrArg BitVec.toNat (if_neg h)

/-- A code is the sum of its bits: nothing wraps. -/
theorem codeWord_toNat (q p0 p1 p2 p3 p4 p5 p6 p7 : F .f32) :
    (codeWord q p0 p1 p2 p3 p4 p5 p6 p7).toNat
      = (if FloatOps.cmpf .oge p0 q = 1#1 then 1 else 0) + (if FloatOps.cmpf .oge p1 q = 1#1 then 2 else 0)
        + (if FloatOps.cmpf .oge p2 q = 1#1 then 4 else 0) + (if FloatOps.cmpf .oge p3 q = 1#1 then 8 else 0)
        + (if FloatOps.cmpf .oge p4 q = 1#1 then 16 else 0) + (if FloatOps.cmpf .oge p5 q = 1#1 then 32 else 0)
        + (if FloatOps.cmpf .oge p6 q = 1#1 then 64 else 0) + (if FloatOps.cmpf .oge p7 q = 1#1 then 128 else 0) := by
  unfold codeWord
  simp only [BitVec.toNat_add, bitWord_toNat, BitVec.toNat_ofNat, Nat.reducePow, Nat.reduceMod]
  split_ifs <;> rfl

/-- Every code of a block is below 256. -/
theorem codesBlk_lt (x : Vec F S1x3x512x512 .f32) (y : S1x512x512.Idx) : (codesBlk x y).toNat < 256 := by
  rw [codesBlk_apply, codeWord_toNat]
  have h : ∀ (c : Prop) [Decidable c] (n : ℕ), (if c then n else 0) ≤ n := fun c _ n => by split_ifs <;> omega
  have h0 := h (FloatOps.cmpf .oge (shifted (padded (gray x)) 0 2 (pix y)) (gray x (pix y)) = 1#1) 1
  have h1 := h (FloatOps.cmpf .oge (shifted (padded (gray x)) 1 2 (pix y)) (gray x (pix y)) = 1#1) 2
  have h2 := h (FloatOps.cmpf .oge (shifted (padded (gray x)) 2 2 (pix y)) (gray x (pix y)) = 1#1) 4
  have h3 := h (FloatOps.cmpf .oge (shifted (padded (gray x)) 2 1 (pix y)) (gray x (pix y)) = 1#1) 8
  have h4 := h (FloatOps.cmpf .oge (shifted (padded (gray x)) 2 0 (pix y)) (gray x (pix y)) = 1#1) 16
  have h5 := h (FloatOps.cmpf .oge (shifted (padded (gray x)) 1 0 (pix y)) (gray x (pix y)) = 1#1) 32
  have h6 := h (FloatOps.cmpf .oge (shifted (padded (gray x)) 0 0 (pix y)) (gray x (pix y)) = 1#1) 64
  have h7 := h (FloatOps.cmpf .oge (shifted (padded (gray x)) 0 1 (pix y)) (gray x (pix y)) = 1#1) 128
  omega

/-- Every code is below 256. -/
theorem codes_lt (img : FVec F S8x3x512x512 .f32) (y : S8x512x512.Idx) : (codes img y).toNat < 256 := codesBlk_lt _ _

/-- The codes laid out flat, as the SparseCore call reads them. -/
def flat (img : FVec F S8x3x512x512 .f32) : IVec S2097152 32 := shapeCast S2097152 (codes img) shapeCasts_S8x512x512_S2097152

/-- Every flat code is below 256. -/
theorem flat_lt (img : FVec F S8x3x512x512 .f32) (x : S2097152.Idx) : (flat img x).toNat < 256 := codes_lt img _

end Cert.KernelIdealRun

end
-- ==== Proof.KernelIdealLaunch.lean ====
/-
  The launch of the kernel: what its SparseCore call is handed and hands back, and the two TensorCore calls as steps of the main program.
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.WritesUnit
public import Idealize.ShloMosaic.Lib.Pipeline.ValueKit
public import proofs.«01_k».proof.Proof.KernelIdealTile
public import proofs.«01_k».proof.Proof.KernelIdealWord

@[expose] public section

set_option maxRecDepth 16384

noncomputable section

namespace Cert.KernelIdealRun

open Cert.KernelIdeal Cert.KernelIdeal.Gen Cert.Lbp

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-! ## What the handshakes of the SparseCore call carry -/

abbrev locOf (d : Dev nD) (b : Ref sig .tc) : Loc nD τ sig := (SparseCore.T d).loc b

variable (g : Dev nD → IVec S2097152 32)

/-- The tile of subcore `s` of SparseCore `c`. -/
def tileOf (c : Fin 2) (s : Fin 16) : Fin 32 := ⟨2 * s.val + c.val, by omega⟩

abbrev inPts (d : Dev nD) (w : Fin 32) : sProp 𝕄 := iprop(xPts (g d) d w ∗ ∃ f, oPts d w f)
abbrev outPts (d : Dev nD) (w : Fin 32) : sProp 𝕄 := iprop(xPts (g d) d w ∗ oPts d w (counts (g d)))

/-- Each SparseCore gets its sixteen tiles' chunks of the codes and rows of the counts, each tile its own; they come back with the rows
    written. -/
def P : (K (F := F)).Pay (nD := nD) (Val := Elt F) (Name := ℕ) (U := UU) where
  st := fun q d c => match q with | 0 => bigSep Finset.univ fun s : Fin 16 => inPts g d (tileOf (Fin.cast nCore_zero c) s)
  dn := fun q d c => match q with | 0 => bigSep Finset.univ fun s : Fin 16 => outPts g d (tileOf (Fin.cast nCore_zero c) s)
  go := fun q d c i => match q with | 0 => inPts g d (tileOf (Fin.cast nCore_zero c) (Fin.cast nSub_zero i))
  td := fun q d c i => match q with | 0 => outPts g d (tileOf (Fin.cast nCore_zero c) (Fin.cast nSub_zero i))
  x := fun _ _ => iprop(emp)

/-- What the handshakes carry may be stored. -/
instance P_storable : (P (F := F) g).IsStorable where
  st q d c := match q with
    | 0 => (inferInstance : BI.Storable (upEmb : UEmb _ 𝕄) (bigSep Finset.univ fun s : Fin 16 => inPts g d (tileOf (Fin.cast nCore_zero c) s)))
  dn q d c := match q with
    | 0 => (inferInstance : BI.Storable (upEmb : UEmb _ 𝕄) (bigSep Finset.univ fun s : Fin 16 => outPts g d (tileOf (Fin.cast nCore_zero c) s)))
  go q d c i := match q with
    | 0 => (inferInstance : BI.Storable (upEmb : UEmb _ 𝕄) (inPts g d (tileOf (Fin.cast nCore_zero c) (Fin.cast nSub_zero i))))
  td q d c i := match q with
    | 0 => (inferInstance : BI.Storable (upEmb : UEmb _ 𝕄) (outPts g d (tileOf (Fin.cast nCore_zero c) (Fin.cast nSub_zero i))))

/-! ## The task -/

def coordsV (c : Fin (grid1.bound 0)) (s : Fin (grid1.bound 1)) : grid1.Coords
  | 0 => c | 1 => s | ⟨_ + 2, h⟩ => absurd h (Nat.not_lt.2 (Nat.le_add_left _ _))

/-- A tile's task is the program's tile body at the tile's coordinates. -/
theorem defs₀_vector (c : Fin τ.nSC) (s : Fin τ.nSub) :
    defs₀ (F := F) (.scVector c s) 1 () = SparseCore.onTile hcore1 hsub1 (fun c s => cc1__sc_hist_body (F := F) (coordsV c s)
      (Memref.whole main_v1_scv) (Memref.isWhole_whole _) (Memref.whole main_v2_scv) (Memref.isWhole_whole _)
      (Memref.whole cc1_scratch0) (Memref.isWhole_whole _) (Memref.whole cc1_scratch1) (Memref.isWhole_whole _) cc1_scratch2 cc1_scoped0 cc1_scoped1) ⟨⟩ c s := rfl

/-- Each tile, given its codes below 256 and its row of the partial counts, leaves its counts there. -/
theorem tileObl (hg : ∀ d x, (g d x).toNat < 256) : (K (F := F)).TileObl (D (F := F)) 𝒱 (P g) v₀ 0 := by
  intro d c i O W hO _ _
  simp only [show (P g).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]
  simp only [SparseCore.onTile, hci, and_self, ↓reduceDIte]
  exact tile_body (g d) d (coordsV ⟨_, hci.1⟩ ⟨_, hci.2⟩) (hg d) facts O W hO

/-! ## The arrays and their rows -/

omit [FloatOps F] in
/-- A separating conjunction over the tasks of a core is one over the tiles' numbers. -/
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

omit [FloatOps F] in
/-- A separating conjunction over the call's cores is one over the cores' numbers. -/
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- The tiles, by SparseCore and subcore. -/
def tileEquiv : Fin 2 × Fin 16 ≃ Fin 32 where
  toFun p := tileOf p.1 p.2
  invFun w := (⟨w.val % 2, by omega⟩, ⟨w.val / 2, by omega⟩)
  left_inv p := by
    obtain ⟨c, s⟩ := p
    refine Prod.ext (Fin.ext ?_) (Fin.ext ?_)
    · show (2 * s.val + c.val) % 2 = c.val
      omega
    · show (2 * s.val + c.val) / 2 = s.val
      omega
  right_inv w := Fin.ext (by show 2 * (w.val / 2) + w.val % 2 = w.val; omega)

omit [FloatOps F] in
/-- A separating conjunction over the 32 tiles is one over cores and tiles of a core. -/
theorem bigSep_tiles (Φ : Fin 32 → sProp 𝕄) :
    (bigSep Finset.univ fun c : Fin 2 => bigSep Finset.univ fun s : Fin 16 => Φ (tileOf c s)) = bigSep Finset.univ Φ := by
  rw [bigSep_univ_equiv tileEquiv, bigSep_univ_prod]
  rfl

/-- A tile's part of the codes is the set of its rectangle. -/
theorem xSet_eq (w : Fin 32) : xSet w = (xRow w).set := by
  show ((View.whole (main_v1_scv : Ref sig .scVector)).slice (xRow w)).set = _
  rw [View.set_slice]; exact Finset.map_refl
/-- A tile's part of the partial counts is the set of its rectangle. -/
theorem oSet_eq (w : Fin 32) : oSet w = (oRow w).set := by
  show ((View.whole (main_v2_scv : Ref sig .scVector)).slice (oRow w)).set = _
  rw [View.set_slice]; exact Finset.map_refl

/-- Two tiles' parts of the codes are disjoint. -/
theorem xSets_disjoint : ∀ i ∈ (Finset.univ : Finset (Fin 32)), ∀ j ∈ (Finset.univ : Finset (Fin 32)), i ≠ j → Disjoint (xSet i) (xSet j) :=
  fun i _ j _ h => by rw [xSet_eq, xSet_eq]; exact Rect.part_disjoint hdivX h
/-- Two tiles' parts of the partial counts are disjoint. -/
theorem oSets_disjoint : ∀ i ∈ (Finset.univ : Finset (Fin 32)), ∀ j ∈ (Finset.univ : Finset (Fin 32)), i ≠ j → Disjoint (oSet i) (oSet j) :=
  fun i _ j _ h => by rw [oSet_eq, oSet_eq]; exact Rect.part_disjoint hdivO h
/-- The tiles' parts of the codes make up the whole. -/
theorem xSets_cover : (Finset.univ : Finset (Fin 32)).biUnion xSet = Finset.univ :=
  (Finset.biUnion_congr rfl fun i _ => xSet_eq i).trans (Rect.biUnion_part hdivX)
/-- The tiles' parts of the partial counts make up the whole. -/
theorem oSets_cover : (Finset.univ : Finset (Fin 32)).biUnion oSet = Finset.univ :=
  (Finset.biUnion_congr rfl fun i _ => oSet_eq i).trans (Rect.biUnion_part hdivO)

omit [FloatOps F] in
/-- Holding the codes is holding every tile's part of them. -/
theorem x_rows (d : Dev nD) (f : Buf (Elt F) (xLoc d)) :
    (xLoc d ↦{fullShare} f : sProp 𝕄) = bigSep Finset.univ fun w : Fin 32 => xLoc d ↦[xSet w]{fullShare} f := by
  rw [← pointsTo_biUnion Finset.univ (ℓ := xLoc d) xSet xSets_disjoint, xSets_cover]; try rfl
omit [FloatOps F] in
/-- Holding the partial counts is holding every tile's part of them. -/
theorem o_rows (d : Dev nD) (f : Buf (Elt F) (oLoc d)) :
    (oLoc d ↦{fullShare} f : sProp 𝕄) = bigSep Finset.univ fun w : Fin 32 => oLoc d ↦[oSet w]{fullShare} f := by
  rw [← pointsTo_biUnion Finset.univ (ℓ := oLoc d) oSet oSets_disjoint, oSets_cover]; try rfl

/-- The operands split among the tiles, and the tiles' results join to the whole table of counts. -/
theorem vecSplit : (K (F := F)).VecSplit' (P g) 0 := by
  intro d c
  show (bigSep Finset.univ fun s : Fin 16 => inPts g d (tileOf (Fin.cast nCore_zero c) s)) ⊢ |={Set.univ}=> iprop(
      (bigSep Finset.univ fun i : Fin ((K (F := F)).nSub 0) => inPts g d (tileOf (Fin.cast nCore_zero c) (Fin.cast nSub_zero i)))
      ∗ ((bigSep Finset.univ fun i : Fin ((K (F := F)).nSub 0) => outPts g d (tileOf (Fin.cast nCore_zero c) (Fin.cast nSub_zero i)))
          -∗ (bigSep Finset.univ fun s : Fin 16 => outPts g d (tileOf (Fin.cast nCore_zero c) s))))
  rw [bigSep_tasks (F := F) (fun i => inPts g d (tileOf (Fin.cast nCore_zero c) i)),
    bigSep_tasks (F := F) (fun i => outPts g d (tileOf (Fin.cast nCore_zero c) i))]
  iintro H; imodintro
  isplitl [H]; · iexact H
  iintro H; iexact H

/-- A tile's operands, with the partial counts holding anything. -/
theorem row_in (g : IVec S2097152 32) (d : Dev nD) (w : Fin 32) (f : Buf (Elt F) (oLoc d)) :
    iprop(xPts g d w ∗ oPts d w f) ⊢ (iprop(xPts g d w ∗ ∃ f, oPts d w f) : sProp 𝕄) := by
  iintro ⟨Hx, Ho⟩
  isplitl [Hx]; · iexact Hx
  iexists f; iexact Ho

/-- What the call takes: the flat codes and the counts whole. -/
theorem st_in (d : Dev nD) (f : Buf (Elt F) (oLoc d)) :
    iprop((xLoc d ↦{fullShare} (g d : Buf (Elt F) (xLoc d))) ∗ (oLoc d ↦{fullShare} f))
      ⊢ (bigSep Finset.univ fun c : Fin ((K (F := F)).nCore 0) => (P g).st 0 d c : sProp 𝕄) := by
  show _ ⊢ (bigSep Finset.univ fun c : Fin ((K (F := F)).nCore 0) => bigSep Finset.univ fun s : Fin 16 => inPts g d (tileOf (Fin.cast nCore_zero c) s))
  rw [bigSep_cores (F := F) (fun c => bigSep Finset.univ fun s : Fin 16 => inPts g d (tileOf c s)), bigSep_tiles (F := F) (fun w => inPts g d w),
    x_rows, o_rows, ← bigSep_sep']
  exact bigSep_mono fun w _ => row_in (g d) d w f

/-- What comes back: the flat codes and the counts whole, written. -/
theorem dn_out (d : Dev nD) :
    (bigSep Finset.univ fun c : Fin ((K (F := F)).nCore 0) => (P g).dn 0 d c : sProp 𝕄)
      ⊢ iprop((xLoc d ↦{fullShare} (g d : Buf (Elt F) (xLoc d))) ∗ (oLoc d ↦{fullShare} (counts (g d) : Buf (Elt F) (oLoc d)))) := by
  show (bigSep Finset.univ fun c : Fin ((K (F := F)).nCore 0) => bigSep Finset.univ fun s : Fin 16 => outPts g d (tileOf (Fin.cast nCore_zero c) s)) ⊢ _
  rw [bigSep_cores (F := F) (fun c => bigSep Finset.univ fun s : Fin 16 => outPts g d (tileOf c s)), bigSep_tiles (F := F) (fun w => outPts g d w),
    x_rows, o_rows, ← bigSep_sep']

/-! ## The launch element -/

/-- The two pipelines as the launch runs them are the kernel's. -/
theorem pin_inj : Function.Injective (Pipeline.cellOf (nD := nD) (τ := τ) (Pipeline.pin (pcfgs (F := F)) adm)) := cellOf_inj

/-- The two pipelines. -/
abbrev PC : (p : Fin 2) → Pipeline.Cfg sig Λ₀ := Pipeline.pin (pcfgs (F := F)) adm

abbrev EP : Emb UP (MT nD τ sig (HIx 1) (Elt F) ℕ UU ℕ) := (Emb.inl : Emb UP (UP × Counters)).trans embR

def u₀ : UU := (initOf (K (F := F)).hsCells (K (F := F)).hsToks,
  (initOf (Pipeline.cells (PC (F := F)) pin_inj) (Pipeline.launchToks (PC (F := F)) pin_inj), 1))

/-- What the launch deals a device for its two pipelines. -/
abbrev G (d : Dev nD) : sProp 𝕄 :=
  iprop((bigSep Finset.univ fun p => Pipeline.cellsGhost (PC (F := F)) (EP (F := F)) p d) ∗ (bigSep Finset.univ fun p => Pipeline.toksInit (PC (F := F)) (EP (F := F)) p d))

omit [FloatOps F] in
/-- Many empty assertions are the empty assertion. -/
theorem bigSep_emp' {I : Type} (s : Finset I) : (bigSep s fun _ => iprop(emp)) = (iprop(emp) : sProp 𝕄) := bigSep_emp_const s

/-- The launch's ghost state gives the handshakes, and each device's share for its TensorCore calls. -/
theorem hu₀ : (ownU (u₀ (F := F)) : sProp 𝕄)
    ⊢ |={Set.univ}=> iprop(BI.own (EH (initOf (K (F := F)).hsCells (K (F := F)).hsToks)) ∗ (bigSep Finset.univ (G (F := F)))
        ∗ bigSep Finset.univ fun thr : Thread nD τ => bigSep Finset.univ fun q : Fin 1 => (P g).x q thr) := by
  unfold u₀
  iintro Hu
  ihave H := (ownU_pair (initOf (K (F := F)).hsCells (K (F := F)).hsToks)
    ((initOf (Pipeline.cells (PC (F := F)) pin_inj) (Pipeline.launchToks (PC (F := F)) pin_inj), 1) : UP × Counters)) $$ Hu
  icases H with ⟨HH, HP⟩
  ihave H2 := (own_pair_emb embR (initOf (Pipeline.cells (PC (F := F)) pin_inj) (Pipeline.launchToks (PC (F := F)) pin_inj)) (1 : Counters)) $$ HP
  icases H2 with ⟨HP, -⟩
  imod (Pipeline.fund_ghost (PC (F := F)) (EP (F := F)) pin_inj) $$ HP with ⟨Hc, Ht⟩
  imodintro
  isplitl [HH]; · iexact HH
  isplitl [Hc Ht]
  · unfold G
    rw [bigSep_sep']
    isplitl [Hc] <;> iassumption
  rw [show (bigSep Finset.univ fun thr : Thread nD τ => bigSep Finset.univ fun q : Fin 1 => (P (F := F) g).x q thr) = bigSep Finset.univ fun _ => iprop(emp) from
    bigSep_congr fun _ _ => bigSep_univ_of_subsingleton (0 : Fin 1), bigSep_emp']
  iempintro

/-! ## The main program on the TensorCore -/

/-- The launch's contents of device `d`'s arrays, and what the final call finds: the counts as 512 rows. -/
abbrev V0 : (c : Dev nD) → (b : Ref sig .tc) → Buf (Elt F) ((T c : Thread nD τ).loc b) := fun c b => m (locOf c b)
/-- The flat codes of the launch's picture. -/
abbrev gOf (d : Dev nD) : IVec S2097152 32 := flat (F := F) (m (locOf d main_arg0))
abbrev rows (d : Dev nD) : FVec F S512x256 .f32 := shapeCast S512x256 (counts (gOf m d)) shapeCasts_S32x4096_S512x256
def V1 : (c : Dev nD) → (b : Ref sig .tc) → Buf (Elt F) ((T c : Thread nD τ).loc b) :=
  fun c => Function.update (V0 m c) main_v3 (rows m c : Buf (Elt F) ((T c : Thread nD τ).loc main_v3))

/-- The last call's operand holds the rows of partial counts. -/
theorem V1_v3 (d : Dev nD) : V1 m d main_v3 = rows m d := Function.update_self _ _ _
/-- The last call's result still holds what it held at the start. -/
theorem V1_v4 (d : Dev nD) : V1 m d main_v4 = m (locOf d main_v4) := Function.update_of_ne (show main_v4 ≠ main_v3 by decide) _ _

omit [FloatOps F] in
/-- The buffers of @main, one by one. -/
theorem unscopedBufs_eq (d : Dev nD) (W : (b : Ref sig .tc) → Buf (Elt F) ((d.tc : Thread nD τ).loc b)) :
    (unscopedBufs d W : sProp 𝕄)
      = iprop((locOf d main_arg0 ↦{fullShare} W main_arg0) ∗ (locOf d main_arg1 ↦{fullShare} W main_arg1) ∗ (locOf d main_arg2 ↦{fullShare} W main_arg2)
        ∗ (locOf d main_v0 ↦{fullShare} W main_v0) ∗ (locOf d main_v1 ↦{fullShare} W main_v1) ∗ (locOf d main_v2 ↦{fullShare} W main_v2)
        ∗ (locOf d main_v3 ↦{fullShare} W main_v3) ∗ (locOf d main_v4 ↦{fullShare} W main_v4)) := by
  unfold unscopedBufs
  rw [show (Finset.univ.filter fun b : Ref sig .tc => ¬ b.isScoped) = {main_arg0, main_arg1, main_arg2, main_v0, main_v1, main_v2, main_v3, main_v4} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- A TensorCore call of the main program is a call of the pipelines' program, carried along. -/
theorem wp_region0 [∀ e, Nonempty (Elt F e)] (V : (c : Dev nD) → (b : Ref sig .tc) → Buf (Elt F) ((T c : Thread nD τ).loc b)) (d : Dev nD) (Q : PUnit → sProp 𝕄) :
    iprop((boundary (T d) ∗ (reg0 V).post d -∗ Q ⟨⟩) ∗ boundary (T d) ∗ (reg0 V).pre d ∗ levAts (K (F := F)).L (K (F := F)).lev
        ∗ Pipeline.cellsGhost (PC (F := F)) (EP (F := F)) 0 d ∗ Pipeline.toksInit (PC (F := F)) (EP (F := F)) 0 d)
      ⊢ wp frame (wpE ((K (F := F)).defs (D (F := F))) 𝒱 (T d) none) Set.univ (Prog.lift (.customCall (SparseCore.inner (Pipeline.entry 0)) ())) Q := by
  rw [show (Prog.lift (.customCall (SparseCore.inner (Pipeline.entry 0)) ()) : Prog (TpuEff nD τ sig (Elt F) (SparseCore.Sig (ΛP (F := F)) 1) .tc) PUnit)
    = SparseCore.liftProg (.op (.customCall (Pipeline.entry 0) ()) .ret) from rfl]
  refine BI.Entails.trans ?_ ((K (F := F)).wp_liftProg (D (F := F)) 𝒱 (T d) Set.univ none _ _)
  refine BI.Entails.trans ?_ (Pipeline.RegionSeg.wp (pcfgs (F := F)) adm (pdats V) (none : HIx 1) pin_inj (EP (F := F)) defs₀ 𝒱₀ (K (F := F)).L (K (F := F)).lev
    (reg0 V) d none (fun u hu => absurd hu (by simp)) .ret Q)
  change (_ : sProp 𝕄) ⊢ _
  iintro ⟨Hk, H⟩
  isplitl [Hk]
  · iintro Hp
    rw [wp_ret]
    imodintro
    iapply Hk $$ Hp
  · iexact H

/-- The last TensorCore call, run as a part of @main. -/
theorem wp_region1 [∀ e, Nonempty (Elt F e)] (V : (c : Dev nD) → (b : Ref sig .tc) → Buf (Elt F) ((T c : Thread nD τ).loc b)) (d : Dev nD) (Q : PUnit → sProp 𝕄) :
    iprop((boundary (T d) ∗ (reg1 V).post d -∗ Q ⟨⟩) ∗ boundary (T d) ∗ (reg1 V).pre d ∗ levAts (K (F := F)).L (K (F := F)).lev
        ∗ Pipeline.cellsGhost (PC (F := F)) (EP (F := F)) 1 d ∗ Pipeline.toksInit (PC (F := F)) (EP (F := F)) 1 d)
      ⊢ wp frame (wpE ((K (F := F)).defs (D (F := F))) 𝒱 (T d) none) Set.univ (Prog.lift (.customCall (SparseCore.inner (Pipeline.entry 1)) ())) Q := by
  rw [show (Prog.lift (.customCall (SparseCore.inner (Pipeline.entry 1)) ()) : Prog (TpuEff nD τ sig (Elt F) (SparseCore.Sig (ΛP (F := F)) 1) .tc) PUnit)
    = SparseCore.liftProg (.op (.customCall (Pipeline.entry 1) ()) .ret) from rfl]
  refine BI.Entails.trans ?_ ((K (F := F)).wp_liftProg (D (F := F)) 𝒱 (T d) Set.univ none _ _)
  refine BI.Entails.trans ?_ (Pipeline.RegionSeg.wp (pcfgs (F := F)) adm (pdats V) (none : HIx 1) pin_inj (EP (F := F)) defs₀ 𝒱₀ (K (F := F)).L (K (F := F)).lev
    (reg1 V) d none (fun u hu => absurd hu (by simp)) .ret Q)
  change (_ : sProp 𝕄) ⊢ _
  iintro ⟨Hk, H⟩
  isplitl [Hk]
  · iintro Hp
    rw [wp_ret]
    imodintro
    iapply Hk $$ Hp
  · iexact H

end Cert.KernelIdealRun

end
-- ==== Proof.KernelIdealMain.lean ====
/-
  The main program of the kernel on the TensorCore, and the run of the whole program: its result outright.
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.WritesUnit
public import Idealize.ShloMosaic.Lib.Pipeline.ValueKit
public import proofs.«01_k».proof.Proof.KernelIdealLaunch

@[expose] public section

set_option maxRecDepth 16384

noncomputable section

namespace Cert.KernelIdealRun

open Cert.KernelIdeal Cert.KernelIdeal.Gen Cert.Lbp

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

open Idealize.ShloMosaic.StableHlo (held wp_hlo_within reshape_result reshape_result_ne)

variable (m : (ℓ : Loc nD τ sig) → Buf (Elt F) ℓ) (ρ : Dev nD → PrngReg)

/-! ## The two reshapes between the calls -/

abbrev r' (b : Ref sig .tc) : DevRef τ sig := Proc.devRef .tc b

abbrev opFlat : HloOp τ sig (Elt F) := StableHlo.reshape main_v0 main_v1 (rfl : (.i32 : EltTy) = .i32) shapeCasts_S8x512x512_S2097152
abbrev opRows : HloOp τ sig (Elt F) := StableHlo.reshape main_v2 main_v3 (rfl : (.f32 : EltTy) = .f32) shapeCasts_S32x4096_S512x256

omit [FloatOps F] in
/-- Holding two buffers at given contents is the two points-to assertions. -/
theorem held_two (x y : Ref sig .tc) (hxy : r' x ∉ ({r' y} : Finset (DevRef τ sig))) (d : Dev nD) (W : Valuation τ sig (Elt F)) :
    (held (T d) {r' x, r' y} W : sProp 𝕄) = iprop((locOf d x ↦{fullShare} W (r' x)) ∗ (locOf d y ↦{fullShare} W (r' y))) := by
  unfold held
  rw [SparseCore.bigSep_insert' hxy, bigSep_singleton]

/-- The valuation holding `a` in `x` and `b` in `y`. -/
def VV (d : Dev nD) (x y : Ref sig .tc) (a : Buf (Elt F) (locOf d x)) (b : Buf (Elt F) (locOf d y)) : Valuation τ sig (Elt F) :=
  Function.update (Function.update (fun b => m (d, b)) (r' y) b) (r' x) a

omit [FloatOps F] in
/-- The valuation's contents of its first buffer. -/
theorem VV_x (d : Dev nD) (x y : Ref sig .tc) (a : Buf (Elt F) (locOf d x)) (b : Buf (Elt F) (locOf d y)) : VV m d x y a b (r' x) = a :=
  Function.update_self _ _ _
omit [FloatOps F] in
/-- The valuation's contents of its second buffer. -/
theorem VV_y (d : Dev nD) (x y : Ref sig .tc) (hxy : r' y ≠ r' x) (a : Buf (Elt F) (locOf d x)) (b : Buf (Elt F) (locOf d y)) :
    VV m d x y a b (r' y) = b :=
  (Function.update_of_ne hxy _ _).trans (Function.update_self _ _ _)

/-- After the reshape, the flat codes are held beside the codes they came from. -/
theorem held_flat (d : Dev nD) (a : IVec S8x512x512 32) (b : Buf (Elt F) (locOf d main_v1)) :
    (held (T d) {r' main_v0, r' main_v1} ((opFlat (F := F)).result (VV m d main_v0 main_v1 a b)) : sProp 𝕄)
      ⊢ iprop((locOf d main_v0 ↦{fullShare} (a : Buf (Elt F) (locOf d main_v0)))
          ∗ (locOf d main_v1 ↦{fullShare} (shapeCast S2097152 a shapeCasts_S8x512x512_S2097152 : Buf (Elt F) (locOf d main_v1)))) := by
  rw [held_two main_v0 main_v1 (by decide),
    show (opFlat (F := F)).result (VV m d main_v0 main_v1 a b) (r' main_v0) = a from
      (reshape_result_ne main_v0 main_v1 _ _ _ _ _ (by decide)).trans (VV_x m d _ _ _ _),
    show (opFlat (F := F)).result (VV m d main_v0 main_v1 a b) (r' main_v1) = shapeCast S2097152 a shapeCasts_S8x512x512_S2097152 from
      (reshape_result main_v0 main_v1 _ _ _ _ _).trans (congrArg (fun z => shapeCast S2097152 z shapeCasts_S8x512x512_S2097152) (VV_x m d _ _ _ _))]

include m in
/-- The reshape of the codes to a vector, run as a part of @main. -/
theorem wp_flat (d : Dev nD) (a : IVec S8x512x512 32) (b : Buf (Elt F) (locOf d main_v1)) (Q : PUnit → sProp 𝕄) :
    iprop(((boundary (T d) ∗ (locOf d main_v0 ↦{fullShare} (a : Buf (Elt F) (locOf d main_v0)))
          ∗ (locOf d main_v1 ↦{fullShare} (shapeCast S2097152 a shapeCasts_S8x512x512_S2097152 : Buf (Elt F) (locOf d main_v1)))) -∗ Q ⟨⟩)
        ∗ boundary (T d) ∗ (locOf d main_v0 ↦{fullShare} (a : Buf (Elt F) (locOf d main_v0))) ∗ (locOf d main_v1 ↦{fullShare} b))
      ⊢ wp frame (wpE ((K (F := F)).defs (D (F := F))) 𝒱 (T d) none) Set.univ (hlo rfl (opFlat (F := F)) fun _ => .ret ⟨⟩) Q := by
  iintro ⟨Hk, Hb, Hx, Hy⟩
  iapply (wp_hlo_within 𝒱 (SparseCore.T d) none Set.univ (op := opFlat (F := F)) (S := {r' main_v0, r' main_v1}) (by exact fun _ h => h)
    (V := VV m d main_v0 main_v1 a b)) $$ [Hb Hx Hy]
  · isplitl [Hb]; · iexact Hb
    rw [held_two main_v0 main_v1 (by decide), VV_x, VV_y m d _ _ (by decide)]
    isplitl [Hx] <;> iassumption
  iintro ⟨Hb, Hh⟩
  rw [wp_ret]
  ihave Hh := (held_flat m d a b) $$ Hh
  imodintro
  iapply Hk
  isplitl [Hb]; · iexact Hb
  iexact Hh

/-- After the reshape, the rows of counts are held beside the partial counts they came from. -/
theorem held_rows (d : Dev nD) (a : FVec F S32x4096 .f32) (b : Buf (Elt F) (locOf d main_v3)) :
    (held (T d) {r' main_v2, r' main_v3} ((opRows (F := F)).result (VV m d main_v2 main_v3 a b)) : sProp 𝕄)
      ⊢ iprop((locOf d main_v2 ↦{fullShare} (a : Buf (Elt F) (locOf d main_v2)))
          ∗ (locOf d main_v3 ↦{fullShare} (shapeCast S512x256 a shapeCasts_S32x4096_S512x256 : Buf (Elt F) (locOf d main_v3)))) := by
  rw [held_two main_v2 main_v3 (by decide),
    show (opRows (F := F)).result (VV m d main_v2 main_v3 a b) (r' main_v2) = a from
      (reshape_result_ne main_v2 main_v3 _ _ _ _ _ (by decide)).trans (VV_x m d _ _ _ _),
    show (opRows (F := F)).result (VV m d main_v2 main_v3 a b) (r' main_v3) = shapeCast S512x256 a shapeCasts_S32x4096_S512x256 from
      (reshape_result main_v2 main_v3 _ _ _ _ _).trans (congrArg (fun z => shapeCast S512x256 z shapeCasts_S32x4096_S512x256) (VV_x m d _ _ _ _))]

include m in
/-- The reshape of the partial counts to rows, run as a part of @main. -/
theorem wp_rows (d : Dev nD) (a : FVec F S32x4096 .f32) (b : Buf (Elt F) (locOf d main_v3)) (Q : PUnit → sProp 𝕄) :
    iprop(((boundary (T d) ∗ (locOf d main_v2 ↦{fullShare} (a : Buf (Elt F) (locOf d main_v2)))
          ∗ (locOf d main_v3 ↦{fullShare} (shapeCast S512x256 a shapeCasts_S32x4096_S512x256 : Buf (Elt F) (locOf d main_v3)))) -∗ Q ⟨⟩)
        ∗ boundary (T d) ∗ (locOf d main_v2 ↦{fullShare} (a : Buf (Elt F) (locOf d main_v2))) ∗ (locOf d main_v3 ↦{fullShare} b))
      ⊢ wp frame (wpE ((K (F := F)).defs (D (F := F))) 𝒱 (T d) none) Set.univ (hlo rfl (opRows (F := F)) fun _ => .ret ⟨⟩) Q := by
  iintro ⟨Hk, Hb, Hx, Hy⟩
  iapply (wp_hlo_within 𝒱 (SparseCore.T d) none Set.univ (op := opRows (F := F)) (S := {r' main_v2, r' main_v3}) (by exact fun _ h => h)
    (V := VV m d main_v2 main_v3 a b)) $$ [Hb Hx Hy]
  · isplitl [Hb]; · iexact Hb
    rw [held_two main_v2 main_v3 (by decide), VV_x, VV_y m d _ _ (by decide)]
    isplitl [Hx] <;> iassumption
  iintro ⟨Hb, Hh⟩
  rw [wp_ret]
  ihave Hh := (held_rows m d a b) $$ Hh
  imodintro
  iapply Hk
  isplitl [Hb]; · iexact Hb
  iexact Hh

/-! ## The main program -/

/-- The arrays the claim speaks of, at the end: the three arguments as at the launch, the result computed. -/
abbrev FIN (d : Dev nD) : sProp 𝕄 :=
  iprop((locOf d main_arg0 ↦{fullShare} m (locOf d main_arg0)) ∗ (locOf d main_arg1 ↦{fullShare} m (locOf d main_arg1))
    ∗ (locOf d main_arg2 ↦{fullShare} m (locOf d main_arg2)) ∗ (locOf d main_v4 ↦{fullShare} (finBlk (rows m d) : Buf (Elt F) (locOf d main_v4))))

omit [FloatOps F] in
/-- The TensorCore's state lends what the thread owes, and takes it back. -/
theorem tcSt_open (d : Dev nD) (n : ℕ) : ((K (F := F)).tcSt EH d n : sProp 𝕄) ⊢ iprop(owesTc (F := F) d n ∗ (owesTc (F := F) d n -∗ (K (F := F)).tcSt EH d n)) := by
  unfold SparseCore.Cfg.tcSt
  iintro ⟨HO, H⟩
  isplitl [HO]; · iexact HO
  iintro HO
  isplitl [HO]; · iexact HO
  iexact H

/-- What the first TensorCore call asks for. -/
theorem pre0 (d : Dev nD) : (iprop((locOf d main_arg0 ↦{fullShare} m (locOf d main_arg0)) ∗ (locOf d main_v0 ↦{fullShare} m (locOf d main_v0)) ∗ owesTc (F := F) d 0) : sProp 𝕄)
    ⊢ (reg0 (V0 m)).pre d := .rfl
/-- What the first TensorCore call gives back. -/
theorem post0 (d : Dev nD) : ((reg0 (V0 m)).post d : sProp 𝕄)
    ⊢ iprop((locOf d main_arg0 ↦{fullShare} m (locOf d main_arg0)) ∗ (locOf d main_v0 ↦{fullShare} (codes (m (locOf d main_arg0)) : Buf (Elt F) (locOf d main_v0))) ∗ owesTc (F := F) d 0) := .rfl
/-- What the last TensorCore call asks for. -/
theorem pre1 (d : Dev nD) : (iprop((locOf d main_v3 ↦{fullShare} (rows m d : Buf (Elt F) (locOf d main_v3))) ∗ (locOf d main_v4 ↦{fullShare} m (locOf d main_v4)) ∗ owesTc (F := F) d 1) : sProp 𝕄)
    ⊢ (reg1 (V1 m)).pre d := by
  rw [show (reg1 (V1 m)).pre d = iprop((locOf d main_v3 ↦{fullShare} V1 m d main_v3) ∗ (locOf d main_v4 ↦{fullShare} V1 m d main_v4) ∗ owesTc (F := F) d 1) from rfl,
    V1_v3, V1_v4]
/-- What the last TensorCore call gives back. -/
theorem post1 (d : Dev nD) : ((reg1 (V1 m)).post d : sProp 𝕄)
    ⊢ iprop((locOf d main_v3 ↦{fullShare} (rows m d : Buf (Elt F) (locOf d main_v3))) ∗ (locOf d main_v4 ↦{fullShare} (finBlk (rows m d) : Buf (Elt F) (locOf d main_v4))) ∗ owesTc (F := F) d 1) := by
  rw [show (reg1 (V1 m)).post d = iprop((locOf d main_v3 ↦{fullShare} V1 m d main_v3) ∗ (locOf d main_v4 ↦{fullShare} finBlk (V1 m d main_v3)) ∗ owesTc (F := F) d 1) from rfl,
    V1_v3]

omit [FloatOps F] in
/-- A device's ghost state is that of its two TensorCore calls. -/
theorem G_two (d : Dev nD) : (G (F := F) d : sProp 𝕄) ⊢ iprop(((Pipeline.cellsGhost (PC (F := F)) (EP (F := F)) 0 d) ∗ (Pipeline.cellsGhost (PC (F := F)) (EP (F := F)) 1 d))
    ∗ ((Pipeline.toksInit (PC (F := F)) (EP (F := F)) 0 d) ∗ (Pipeline.toksInit (PC (F := F)) (EP (F := F)) 1 d))) := by
  unfold G
  rw [bigSep_fin_two, bigSep_fin_two]
  exact .rfl

omit [FloatOps F] in
/-- The TensorCore's state after the tiles' call lends what the thread owes, and takes it back. -/
theorem tcSt_one (d : Dev nD) : ((K (F := F)).tcSt EH d ((0 : Fin 1).val + 1) : sProp 𝕄) ⊢ iprop(owesTc (F := F) d 1 ∗ (owesTc (F := F) d 1 -∗ (K (F := F)).tcSt EH d 1)) :=
  tcSt_open d 1

/-- The main program on device `d`'s TensorCore: the codes, flattened; the SparseCore call; its counts, as 512 rows; the final scaling. -/
theorem hmain [∀ e, Nonempty (Elt F e)] (κ : GSem nD τ sig → ℕ) (d : Dev nD) :
    iprop((K (F := F)).ctx EH (P (gOf m)) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Ha0, Ha1, Ha2, Hv0, Hv1, Hv2, Hv3, Hv4⟩, Hts, -⟩, HG⟩
  ihave HG' := (G_two (F := F) d) $$ HG
  icases HG' with ⟨⟨Hc0, Hc1⟩, ⟨Ht0, Ht1⟩⟩
  ihave #Hlev := ((K (F := F)).ctx_levAts κ) $$ Hctx
  -- the codes
  ihave Hs := (tcSt_open d 0) $$ Hst
  icases Hs with ⟨HO, Hst⟩
  iapply (wp_region0 (V0 m) d _)
  isplitr [Hb Ha0 Hv0 HO Hc0 Ht0]
  on_goal 2 =>
    isplitl [Hb]; · iexact Hb
    isplitl [Ha0 Hv0 HO]
    · iapply (pre0 m d)
      isplitl [Ha0]; · iexact Ha0
      isplitl [Hv0]; · iexact Hv0
      iexact HO
    isplitr; · iexact Hlev
    isplitl [Hc0] <;> iassumption
  iintro ⟨Hb, Hp⟩
  ihave Hp := (post0 m d) $$ Hp
  icases Hp with ⟨Ha0, Hv0, HO⟩
  ihave Hst := Hst $$ HO
  -- flattened
  iapply (wp_flat m d (codes (m (locOf d main_arg0))) _ _)
  isplitr [Hb Hv0 Hv1]
  on_goal 2 =>
    isplitl [Hb]; · iexact Hb
    isplitl [Hv0]; · iexact Hv0
    iexact Hv1
  iintro ⟨Hb, -, Hv1⟩
  -- the SparseCore call
  iapply ((K (F := F)).wp_run (D (F := F)) 𝒱 (EH := EH) (P := P (gOf m)) κ d 0) $$ [-]
  isplitr; · iexact Hctx
  isplitl [Hst]; · iexact Hst
  isplitl [Hv1 Hv2]
  · iapply (st_in (gOf m) d _)
    isplitl [Hv1]; · iexact Hv1
    iexact Hv2
  iintro ⟨Hst, Hdn⟩
  ihave Hdn' := (dn_out (gOf m) d) $$ Hdn
  icases Hdn' with ⟨-, Hv2⟩
  -- the counts as rows
  iapply (wp_rows m d (counts (gOf m d)) _ _)
  isplitr [Hb Hv2 Hv3]
  on_goal 2 =>
    isplitl [Hb]; · iexact Hb
    isplitl [Hv2]; · iexact Hv2
    iexact Hv3
  iintro ⟨Hb, -, Hv3⟩
  -- the final scaling
  ihave Hs := (tcSt_one d) $$ Hst
  icases Hs with ⟨HO, Hst⟩
  iapply (wp_region1 (V1 m) d _)
  isplitr [Hb Hv3 Hv4 HO Hc1 Ht1]
  on_goal 2 =>
    isplitl [Hb]; · iexact Hb
    isplitl [Hv3 Hv4 HO]
    · iapply (pre1 m d)
      isplitl [Hv3]; · iexact Hv3
      isplitl [Hv4]; · iexact Hv4
      iexact HO
    isplitr; · iexact Hlev
    isplitl [Hc1] <;> iassumption
  iintro ⟨Hb, Hp⟩
  ihave Hp := (post1 m d) $$ Hp
  icases Hp with ⟨-, Hv4, HO⟩
  ihave Hst := Hst $$ HO
  imodintro
  isplitl [Hst]; · iexact Hst
  isplitr [Hb Hts]
  · isplitl [Ha0]; · iexact Ha0
    isplitl [Ha1]; · iexact Ha1
    isplitl [Ha2]; · iexact Ha2
    iexact Hv4
  isplitl [Hb] <;> iassumption

def fq (d : Dev nD) (s' : Phys nD τ sig (Elt F)) : Prop :=
  s'.mem.mem (locOf d main_arg0) = m (locOf d main_arg0) ∧ s'.mem.mem (locOf d main_arg1) = m (locOf d main_arg1)
    ∧ s'.mem.mem (locOf d main_arg2) = m (locOf d main_arg2) ∧ s'.mem.mem (locOf d main_v4) = finBlk (rows m d)

/-- At the end the memory holds what the final assertion says. -/
theorem hfin (d : Dev nD) (s' : Phys nD τ sig (Elt F)) : iprop(FIN m d ∗ SI s') ⊢ (⌜fq m d s'⌝ : sProp 𝕄) := by
  iintro ⟨⟨H0, H1, H2, H3⟩, HSI⟩
  ihave H := (persistent_entails_right (SI_pointsTo_agree (st := s') (ℓ := locOf d main_arg0) (I := Finset.univ) (q := fullShare) (f := m (locOf d main_arg0)))) $$ [HSI H0]
  · isplitl [HSI] <;> iassumption
  icases H with ⟨%h0, HSI, -⟩
  ihave H := (persistent_entails_right (SI_pointsTo_agree (st := s') (ℓ := locOf d main_arg1) (I := Finset.univ) (q := fullShare) (f := m (locOf d main_arg1)))) $$ [HSI H1]
  · isplitl [HSI] <;> iassumption
  icases H with ⟨%h1, HSI, -⟩
  ihave H := (persistent_entails_right (SI_pointsTo_agree (st := s') (ℓ := locOf d main_arg2) (I := Finset.univ) (q := fullShare) (f := m (locOf d main_arg2)))) $$ [HSI H2]
  · isplitl [HSI] <;> iassumption
  icases H with ⟨%h2, HSI, -⟩
  ihave H := (SI_pointsTo_agree (st := s') (ℓ := locOf d main_v4) (I := Finset.univ) (q := fullShare) (f := finBlk (rows m d))) $$ [HSI H3]
  · isplitl [HSI] <;> iassumption
  icases H with %h3
  ipureintro
  exact ⟨funext fun i => h0 i (Finset.mem_univ i), funext fun i => h1 i (Finset.mem_univ i), funext fun i => h2 i (Finset.mem_univ i),
    funext fun i => h3 i (Finset.mem_univ i)⟩

/-! ## The program's run -/

/-- Every device ends with its arguments unchanged and the result computed; every semaphore is back at zero. -/
def QC : PUnit × MemSt nD τ sig (Elt F) → Prop := fun r => (∀ c : Dev nD, r.2.mem (locOf c main_arg0) = m (locOf c main_arg0)
  ∧ r.2.mem (locOf c main_arg1) = m (locOf c main_arg1) ∧ r.2.mem (locOf c main_arg2) = m (locOf c main_arg2)
  ∧ r.2.mem (locOf c main_v4) = finBlk (rows m c)) ∧ r.2.sem = fun _ => 0

/-- The whole program runs to its end, with its arguments as they were, its result the scaled sum of the tiles' counts, and every semaphore at zero. -/
theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (gOf m)) (A := ∅) facts v₀
    (fun q hq => match q with | 0 => nomatch hq)
    (fun q _ => match q with | 0 => tileObl (gOf m) fun d => flat_lt _)
    (fun q _ => match q with | 0 => SparseCore.Cfg.VecSplit.of_plain (vecSplit (gOf m)))
    m ρ main (G (F := F)) (FIN m) (u₀ (F := F)) (sep_elim_left.trans (hu₀ (gOf m))) (hmain m ρ) (fq m) (hfin m) (QC m) (fun _ h hz => ⟨h, hz⟩)

end Cert.KernelIdealRun

end
-- ==== Proof.Frames.lean ====
/-
  The frames: each of the three programs runs to the end, leaves its arguments as they were and every semaphore at zero.
-/
module

public import proofs.«01_k».proof.Defs
public import proofs.«01_k».proof.Proof.KernelMain
public import proofs.«01_k».proof.Proof.KernelIdealMain
public import proofs.«01_k».proof.Proof.Gen.ReferenceIdeal.Run

@[expose] public section

noncomputable section

namespace Cert.Lbp

open Idealize.ShloMosaic Idealize.SL.Sem

/-- The kernel, on any arguments at all. -/
theorem frame_kernel : Cert.quiescent_Kernel (hKernel := Cert.Kernel.Gen.facts) := fun m ρ _ =>
  (θ_run _ _ _).mono (fun _ h => ⟨fun c => ⟨(h.1 c).1, (h.1 c).2.1, (h.1 c).2.2.1⟩, h.2⟩)
    (Cert.KernelRun.run_main (F := Bits) m ρ)

/-- The same program over the extended reals. -/
theorem frame_kernelIdeal : Cert.quiescent_KernelIdeal (hKernelIdeal := Cert.KernelIdeal.Gen.facts) := fun m ρ _ =>
  (θ_run _ _ _).mono (fun _ h => ⟨fun c => ⟨(h.1 c).1, (h.1 c).2.1, (h.1 c).2.2.1⟩, h.2⟩)
    (Cert.KernelIdealRun.run_main (F := Ideal) m ρ)

/-- The reference over the extended reals. -/
theorem frame_reference : Cert.quiescent_ReferenceIdeal (hReferenceIdeal := Cert.ReferenceIdeal.Gen.facts) := fun m ρ _ =>
  (θ_run _ _ _).mono (fun r h => ⟨fun c => (h c).2, sem_eq_zero_of_no_sems (by decide) r.2⟩)
    (Cert.ReferenceIdeal.Value.run (F := Ideal) m ρ)

end Cert.Lbp

end
-- ==== Proof.Spec.lean ====
/-
  What both programs compute over the extended reals, said once: the grey value of a pixel, the same with zeros around the picture, and
  a pixel's code.
-/
module

public import Idealize.ShloMosaic.Lib.Pointwise
public import Idealize.ShloMosaic.PureOps.Ideal.Laws

@[expose] public section

noncomputable section

namespace Cert.Lbp

open Idealize.ShloMosaic

/-- Eight pictures of three channels. -/
abbrev Pics : Shape := ⟨4, ![8, 3, 512, 512]⟩

/-- The weight of a channel in a grey value. -/
def wR : EReal := Ideal.ofBits .f32 0x3E991687#32
def wG : EReal := Ideal.ofBits .f32 0x3F1645A2#32
def wB : EReal := Ideal.ofBits .f32 0x3DE978D5#32

/-- The grey value of pixel `(y, x)` of picture `b`. -/
def grey (img : Pics.Idx → EReal) (b : Fin 8) (y x : Fin 512) : EReal :=
  (wR * img (ix4 b 0 y x) + wG * img (ix4 b 1 y x)) + wB * img (ix4 b 2 y x)

/-- The grey values of picture `b` with one row and one column of zeros on every side; the picture starts at `(1, 1)`. -/
def pad0 (img : Pics.Idx → EReal) (b : Fin 8) (i j : ℕ) : EReal :=
  if h : (1 ≤ i ∧ i < 513) ∧ (1 ≤ j ∧ j < 513) then grey img b ⟨i - 1, by omega⟩ ⟨j - 1, by omega⟩ else 0

/-- Inside its border the padded picture is the picture. -/
theorem pad0_in (img : Pics.Idx → EReal) (b : Fin 8) (y x : Fin 512) : pad0 img b (y.val + 1) (x.val + 1) = grey img b y x := by
  unfold pad0
  rw [dif_pos ⟨⟨by omega, by omega⟩, ⟨by omega, by omega⟩⟩]
  rfl

/-- Whether the neighbour at offset `(r - 1, c - 1)` is not below the pixel. -/
def above (img : Pics.Idx → EReal) (b : Fin 8) (y x : Fin 512) (r c : ℕ) : Prop :=
  grey img b y x ≤ pad0 img b (y.val + r) (x.val + c)

instance (img : Pics.Idx → EReal) (b : Fin 8) (y x : Fin 512) (r c : ℕ) : Decidable (above img b y x r c) :=
  inferInstanceAs (Decidable (_ ≤ _))

/-- The code of a pixel: one bit per neighbour, in the order both programs take them. -/
def code (img : Pics.Idx → EReal) (b : Fin 8) (y x : Fin 512) : ℕ :=
  (if above img b y x 0 2 then 1 else 0) + (if above img b y x 1 2 then 2 else 0) + (if above img b y x 2 2 then 4 else 0)
    + (if above img b y x 2 1 then 8 else 0) + (if above img b y x 2 0 then 16 else 0) + (if above img b y x 1 0 then 32 else 0)
    + (if above img b y x 0 0 then 64 else 0) + (if above img b y x 0 1 then 128 else 0)

/-- A code is below 256. -/
theorem code_lt (img : Pics.Idx → EReal) (b : Fin 8) (y x : Fin 512) : code img b y x < 256 := by
  unfold code
  split_ifs <;> omega

/-- The pixel an element of the flat codes is. -/
def picOf (k : Fin 2097152) : Fin 8 := ⟨k.val / 262144, by omega⟩
def rowOf (k : Fin 2097152) : Fin 512 := ⟨k.val / 512 % 512, by omega⟩
def colOf (k : Fin 2097152) : Fin 512 := ⟨k.val % 512, by omega⟩

/-- The codes one after another: picture by picture, row by row. -/
def codeK (img : Pics.Idx → EReal) (k : Fin 2097152) : ℕ := code img (picOf k) (rowOf k) (colOf k)

end Cert.Lbp

end
-- ==== Proof.KernelIdealCode.lean ====
/-
  The kernel's codes over the extended reals.
-/
module

public import proofs.«01_k».proof.Proof.KernelIdealWord
public import proofs.«01_k».proof.Proof.Spec

@[expose] public section

set_option maxRecDepth 16384

noncomputable section

namespace Cert.KernelIdealRun

open Cert.KernelIdeal Cert.KernelIdeal.Gen Cert.Lbp
open Idealize.ShloMosaic

/-- The block of picture `b`. -/
def blkOf (img : FVec Ideal S8x3x512x512 .f32) (b : Fin 8) : Vec Ideal S1x3x512x512 .f32 := fun j => img (ix4 b (j 1) (j 2) (j 3))

/-- A block's grey values over the extended reals are the picture's. -/
theorem gray_ideal (img : FVec Ideal S8x3x512x512 .f32) (b : Fin 8) (y x : Fin 512) :
    gray (F := Ideal) (blkOf img b) (ix2 y x) = grey img b y x := by
  unfold gray
  pointwise [k0_pay2, chan, blkOf, grey, wR, wG, wB]

/-- A shifted slice of the padded block is the padded picture at the shifted place. -/
theorem shifted_ideal (img : FVec Ideal S8x3x512x512 .f32) (b : Fin 8) (y x : Fin 512) (r c : Fin 3) :
    shifted (F := Ideal) (padded (gray (F := Ideal) (blkOf img b))) r c (ix2 y x) = pad0 img b (y.val + r.val) (x.val + c.val) := by
  unfold shifted padded pad0
  by_cases h : (1 ≤ y.val + r.val ∧ y.val + r.val < 513) ∧ (1 ≤ x.val + c.val ∧ x.val + c.val < 513)
  · rw [dif_pos h]
    refine (dif_pos (show (1 ≤ r.val + y.val ∧ r.val + y.val < 513) ∧ (1 ≤ c.val + x.val ∧ c.val + x.val < 513) by omega)).trans ?_
    rw [← gray_ideal]
    refine congrArg _ (funext fun a => ?_)
    match a with
    | 0 => exact Fin.ext (show r.val + y.val - 1 = y.val + r.val - 1 by omega)
    | 1 => exact Fin.ext (show c.val + x.val - 1 = x.val + c.val - 1 by omega)
  · rw [dif_neg h]
    refine (dif_neg (show ¬((1 ≤ r.val + y.val ∧ r.val + y.val < 513) ∧ (1 ≤ c.val + x.val ∧ c.val + x.val < 513)) by omega)).trans ?_
    exact Ideal.ofBits_zero_f32

/-- The comparison answers 1 exactly when its second number is at most its first. -/
theorem cmp_oge (x y : Ideal .f32) : FloatOps.cmpf .oge x y = 1#1 ↔ (show EReal from y) ≤ x := by
  rw [show FloatOps.cmpf (F := Ideal) (φ := .f32) .oge x y = Ideal.cmp .oge x y from rfl]
  unfold Ideal.cmp
  by_cases h : y ≤ x <;> simp [h]

/-- The kernel's code of a pixel. -/
theorem codes_ideal (img : FVec Ideal S8x3x512x512 .f32) (b : Fin 8) (y x : Fin 512) :
    (codes (F := Ideal) img (ix3 b y x)).toNat = code img b y x := by
  have hb : codes (F := Ideal) img (ix3 b y x) = codesBlk (F := Ideal) (blkOf img b) (ix3 0 y x) := by
    unfold codes
    refine congr (congrArg _ (funext fun j => congrArg img (funext fun a => ?_))) (funext fun a => ?_)
    · match a with
      | 0 => rfl
      | 1 => rfl
      | 2 => rfl
      | 3 => rfl
    · match a with
      | 0 => rfl
      | 1 => rfl
      | 2 => rfl
  have hp : pix (ix3 (0 : Fin 1) y x) = ix2 y x := funext fun a => match a with
    | 0 => rfl
    | 1 => rfl
  rw [hb, codesBlk_apply, hp, codeWord_toNat]
  simp only [shifted_ideal, gray_ideal, cmp_oge]
  rfl

/-- Read flat. -/
theorem flat_ideal (img : FVec Ideal S8x3x512x512 .f32) (k : Fin 2097152) : (flat (F := Ideal) img (ix1 k)).toNat = codeK img k := by
  unfold flat
  rw [shapeCast_apply _ shapeCasts_S8x512x512_S2097152 (ix1 k) (ix3 (picOf k) (rowOf k) (colOf k)) ?_]
  · exact codes_ideal img _ _ _
  · rw [Shape.rowMajor_val_three, Shape.rowMajor_val_one]
    show (k.val / 262144 * 512 + k.val / 512 % 512) * 512 + k.val % 512 = k.val
    omega

/-- The flat codes over the extended reals are the codes of the pixels. -/
theorem codeAt_ideal (img : FVec Ideal S8x3x512x512 .f32) (k : Fin 2097152) : codeAt (flat (F := Ideal) img) k.val = codeK img k := by
  unfold codeAt
  rw [dif_pos k.isLt, ← flat_ideal]
  refine congrArg (fun z => (flat (F := Ideal) img z).toNat) (funext fun a => ?_)
  match a with
  | 0 => rfl

end Cert.KernelIdealRun

end
-- ==== Proof.Uneven.lean ====
/-
  The 256 codes of eight pictures never come out equally often. Of three pixels that are neighbours of one another the least has neither of
  the other two below it; so one of three given pairs of bits is set for every pixel, its right and its lower neighbour, while with all codes
  equally often a pair of bits is set for a quarter of the pixels, three pairs for three quarters of them at most.
-/
module

public import proofs.«01_k».proof.Proof.Spec

@[expose] public section

set_option maxRecDepth 16384

noncomputable section

namespace Cert.Lbp

open Idealize.ShloMosaic

/-- How many pixels have code `v`. -/
def bin (img : Pics.Idx → EReal) (v : ℕ) : ℕ := ((Finset.univ : Finset (Fin 2097152)).filter fun k => codeK img k = v).card

/-- All bits of `m` are set in `n`. -/
abbrev Has (m n : ℕ) : Prop := n &&& m = m

/-- Where neither the right nor the lower neighbour is below the pixel, the code has their two bits. -/
theorem code_right_low (img : Pics.Idx → EReal) (b : Fin 8) (y x : Fin 512) (h : above img b y x 1 2) (h' : above img b y x 2 1) :
    Has 10 (code img b y x) := by
  unfold code
  rw [if_pos h, if_pos h']
  split_ifs <;> decide

/-- Where neither the left nor the lower left neighbour is below the pixel, the code has their two bits. -/
theorem code_left_lowleft (img : Pics.Idx → EReal) (b : Fin 8) (y x : Fin 512) (h : above img b y x 1 0) (h' : above img b y x 2 0) :
    Has 48 (code img b y x) := by
  unfold code
  rw [if_pos h, if_pos h']
  split_ifs <;> decide

/-- Where neither the upper nor the upper right neighbour is below the pixel, the code has their two bits. -/
theorem code_up_upright (img : Pics.Idx → EReal) (b : Fin 8) (y x : Fin 512) (h : above img b y x 0 1) (h' : above img b y x 0 2) :
    Has 129 (code img b y x) := by
  unfold code
  rw [if_pos h, if_pos h']
  split_ifs <;> decide

/-- The pixels that have a right and a lower neighbour. -/
abbrev Inner : Type := Fin 8 × Fin 511 × Fin 511

/-- The flat place of the pixel `dy` rows below and `dx` columns right of `t`. -/
def place (dy dx : Fin 2) (t : Inner) : Fin 2097152 :=
  ⟨(t.1.val * 512 + (t.2.1.val + dy.val)) * 512 + (t.2.2.val + dx.val), by
    have h0 := t.1.isLt
    have h1 := t.2.1.isLt
    have h2 := t.2.2.isLt
    have h3 := dy.isLt
    have h4 := dx.isLt
    omega⟩

/-- The code at a flat place is the code of the pixel there. -/
theorem codeK_place (img : Pics.Idx → EReal) (dy dx : Fin 2) (t : Inner) :
    codeK img (place dy dx t)
      = code img t.1 ⟨t.2.1.val + dy.val, by have := t.2.1.isLt; have := dy.isLt; omega⟩ ⟨t.2.2.val + dx.val, by have := t.2.2.isLt; have := dx.isLt; omega⟩ := by
  have h0 := t.1.isLt
  have h1 := t.2.1.isLt
  have h2 := t.2.2.isLt
  have h3 := dy.isLt
  have h4 := dx.isLt
  unfold codeK picOf rowOf colOf place
  congr 1 <;> apply Fin.ext <;> dsimp only <;> omega

/-- Different pixels have different flat places. -/
theorem place_inj (dy dx : Fin 2) : Function.Injective (place dy dx) := by
  intro s t h
  have h0 := s.1.isLt
  have h1 := s.2.1.isLt
  have h2 := s.2.2.isLt
  have k0 := t.1.isLt
  have k1 := t.2.1.isLt
  have k2 := t.2.2.isLt
  have h3 := dy.isLt
  have h4 := dx.isLt
  have e := congrArg Fin.val h
  unfold place at e
  dsimp only at e
  refine Prod.ext (Fin.ext ?_) (Prod.ext (Fin.ext ?_) (Fin.ext ?_)) <;> omega

/-- The least of a pixel, its right and its lower neighbour. -/
theorem some_low (img : Pics.Idx → EReal) (t : Inner) :
    Has 10 (codeK img (place 0 0 t)) ∨ Has 48 (codeK img (place 0 1 t)) ∨ Has 129 (codeK img (place 1 0 t)) := by
  obtain ⟨b, y, x⟩ := t
  have hy := y.isLt
  have hx := x.isLt
  rw [codeK_place, codeK_place, codeK_place]
  have p00 := pad0_in img b ⟨y.val, by omega⟩ ⟨x.val, by omega⟩
  have p01 := pad0_in img b ⟨y.val, by omega⟩ ⟨x.val + 1, by omega⟩
  have p10 := pad0_in img b ⟨y.val + 1, by omega⟩ ⟨x.val, by omega⟩
  dsimp only at p00 p01 p10
  have hmin : ∀ p q r : EReal, (p ≤ q ∧ p ≤ r) ∨ (q ≤ p ∧ q ≤ r) ∨ (r ≤ p ∧ r ≤ q) := by
    intro p q r
    rcases le_total p q with h | h
    · rcases le_total p r with h' | h'
      · exact .inl ⟨h, h'⟩
      · exact .inr (.inr ⟨h', h'.trans h⟩)
    · rcases le_total q r with h' | h'
      · exact .inr (.inl ⟨h, h'⟩)
      · exact .inr (.inr ⟨h'.trans h, h'⟩)
  rcases hmin (grey img b ⟨y.val, by omega⟩ ⟨x.val, by omega⟩) (grey img b ⟨y.val, by omega⟩ ⟨x.val + 1, by omega⟩)
    (grey img b ⟨y.val + 1, by omega⟩ ⟨x.val, by omega⟩) with ⟨h, h'⟩ | ⟨h, h'⟩ | ⟨h, h'⟩
  · exact .inl (code_right_low img b _ _ (h.trans_eq p01.symm) (h'.trans_eq p10.symm))
  · exact .inr (.inl (code_left_lowleft img b _ _ (h.trans_eq p00.symm) (h'.trans_eq p10.symm)))
  · exact .inr (.inr (code_up_upright img b _ _ (h.trans_eq p00.symm) (h'.trans_eq p01.symm)))

/-- The code at a flat place is below 256. -/
theorem codeK_lt (img : Pics.Idx → EReal) (k : Fin 2097152) : codeK img k < 256 := code_lt _ _ _ _

/-- With every code 8192 times, `n` codes together are met `8192 n` times. -/
theorem card_has (img : Pics.Idx → EReal) (h : ∀ v < 256, bin img v = 8192) (m : ℕ) :
    ((Finset.univ : Finset (Fin 2097152)).filter fun k => Has m (codeK img k)).card = ((Finset.range 256).filter (Has m)).card * 8192 := by
  rw [Finset.card_eq_sum_card_fiberwise (f := codeK img) (t := (Finset.range 256).filter (Has m))
    (fun k hk => Finset.mem_coe.2 (Finset.mem_filter.2 ⟨Finset.mem_range.2 (codeK_lt img k), (Finset.mem_filter.1 (Finset.mem_coe.1 hk)).2⟩))]
  rw [Finset.sum_congr rfl (g := fun _ => 8192) fun v hv => ?_, Finset.sum_const, smul_eq_mul]
  obtain ⟨hv, hm⟩ := Finset.mem_filter.1 hv
  refine Eq.trans ?_ (h v (Finset.mem_range.1 hv))
  unfold bin
  refine congrArg Finset.card (Finset.ext fun k => ?_)
  simp only [Finset.mem_filter, Finset.mem_univ, true_and]
  exact ⟨fun e => e.2, fun e => ⟨by rw [e]; exact hm, e⟩⟩

/-- If all codes are met equally often, a pair of bits is set at no more than a quarter of the pixels. -/
theorem inner_le (img : Pics.Idx → EReal) (h : ∀ v < 256, bin img v = 8192) (m : ℕ) (hm : ((Finset.range 256).filter (Has m)).card = 64) (dy dx : Fin 2) :
    ((Finset.univ : Finset Inner).filter fun t => Has m (codeK img (place dy dx t))).card ≤ 524288 := by
  refine (Finset.card_le_card_of_injOn (t := (Finset.univ : Finset (Fin 2097152)).filter fun k => Has m (codeK img k)) (place dy dx) ?_ (place_inj dy dx).injOn).trans ?_
  · intro t ht
    exact Finset.mem_coe.2 (Finset.mem_filter.2 ⟨Finset.mem_univ _, (Finset.mem_filter.1 (Finset.mem_coe.1 ht)).2⟩)
  · rw [card_has img h m, hm]

/-- Some code is not met 8192 times. -/
theorem uneven (img : Pics.Idx → EReal) : ∃ v < 256, bin img v ≠ 8192 := by
  by_contra hc
  push Not at hc
  have hcov : (Finset.univ : Finset Inner) ⊆ (Finset.univ.filter fun t => Has 10 (codeK img (place 0 0 t)))
      ∪ ((Finset.univ.filter fun t => Has 48 (codeK img (place 0 1 t))) ∪ (Finset.univ.filter fun t => Has 129 (codeK img (place 1 0 t)))) := by
    intro t _
    simp only [Finset.mem_union, Finset.mem_filter, Finset.mem_univ, true_and]
    exact some_low img t
  have hcard := Finset.card_le_card hcov
  have h1 := Finset.card_union_le (Finset.univ.filter fun t => Has 10 (codeK img (place 0 0 t)))
    ((Finset.univ.filter fun t => Has 48 (codeK img (place 0 1 t))) ∪ (Finset.univ.filter fun t => Has 129 (codeK img (place 1 0 t))))
  have h2 := Finset.card_union_le (Finset.univ.filter fun t => Has 48 (codeK img (place 0 1 t))) (Finset.univ.filter fun t => Has 129 (codeK img (place 1 0 t)))
  have ha := inner_le img hc 10 (by decide) 0 0
  have hb := inner_le img hc 48 (by decide) 0 1
  have hd := inner_le img hc 129 (by decide) 1 0
  have hn : (Finset.univ : Finset Inner).card = 2088968 := by
    rw [Finset.card_univ, Fintype.card_prod, Fintype.card_prod, Fintype.card_fin, Fintype.card_fin]
  omega

end Cert.Lbp

end
-- ==== Proof.Stats.lean ====
/-
  Mean and sample variance of 256 counts, over the reals and as the programs write them over the extended reals; for the counts of codes the
  variance is not zero.
-/
module

public import proofs.«01_k».proof.Proof.Uneven

@[expose] public section

set_option maxRecDepth 16384

noncomputable section

namespace Cert.Lbp

open Idealize.ShloMosaic

/-- A sum of reals, read as an extended real, is the sum of the reals so read. -/
theorem coe_sum {ι : Type} (s : Finset ι) (f : ι → ℝ) : (((∑ i ∈ s, f i : ℝ)) : EReal) = ∑ i ∈ s, ((f i : ℝ) : EReal) := by
  classical
  induction s using Finset.induction_on with
  | empty => simp
  | insert a s ha ih => rw [Finset.sum_insert ha, Finset.sum_insert ha, EReal.coe_add, ih]

/-- The mean of 256 counts. -/
def mean (c : Fin 256 → ℝ) : ℝ := (∑ v, c v) * (1 / 256)
/-- Their sample variance. -/
def variance (c : Fin 256 → ℝ) : ℝ := (∑ v, (c v - mean c) * (c v - mean c)) * (1 / 255)

/-- The pattern of 256 is 256. -/
theorem ofBits_256 : Ideal.ofBits .f32 0x43800000#32 = ((256 : ℝ) : EReal) := by
  simp [Ideal.ofBits, Ideal.ieee, -EReal.coe_mul]; norm_num

/-- The pattern of 255 is 255. -/
theorem ofBits_255 : Ideal.ofBits .f32 0x437F0000#32 = ((255 : ℝ) : EReal) := by
  simp [Ideal.ofBits, Ideal.ieee, -EReal.coe_mul]; norm_num

/-- The sum over 256 is the mean. -/
theorem mean_ideal (c : Fin 256 → ℝ) : Ideal.div (∑ v, ((c v : ℝ) : EReal)) ((256 : ℝ) : EReal) = ((mean c : ℝ) : EReal) := by
  rw [Ideal.div_coe (by norm_num), ← coe_sum, ← EReal.coe_mul]
  rfl

/-- The sum of the squared differences over 255 is the variance. -/
theorem variance_ideal (c : Fin 256 → ℝ) :
    Ideal.div (∑ v, (((c v : ℝ) : EReal) - ((mean c : ℝ) : EReal)) * (((c v : ℝ) : EReal) - ((mean c : ℝ) : EReal))) ((255 : ℝ) : EReal)
      = ((variance c : ℝ) : EReal) := by
  simp only [← EReal.coe_sub, ← EReal.coe_mul]
  rw [Ideal.div_coe (by norm_num), ← coe_sum, ← EReal.coe_mul]
  rfl

/-- The variance is not negative. -/
theorem variance_nonneg (c : Fin 256 → ℝ) : 0 ≤ variance c :=
  mul_nonneg (Finset.sum_nonneg fun _ _ => mul_self_nonneg _) (by norm_num)

/-- The variance is positive where one of the numbers differs from the mean. -/
theorem variance_pos (c : Fin 256 → ℝ) (v : Fin 256) (h : c v ≠ mean c) : 0 < variance c :=
  mul_pos (Finset.sum_pos' (fun _ _ => mul_self_nonneg _) ⟨v, Finset.mem_univ v, mul_self_pos.2 (sub_ne_zero.2 h)⟩) (by norm_num)

/-- How often code `v` is met, as a real. -/
def binR (img : Pics.Idx → EReal) (v : Fin 256) : ℝ := (bin img v.val : ℝ)

/-- The counts of the 256 codes add up to the number of pixels. -/
theorem bin_sum (img : Pics.Idx → EReal) : ∑ v : Fin 256, bin img v.val = 2097152 := by
  have h := Finset.card_eq_sum_card_fiberwise (f := codeK img) (s := (Finset.univ : Finset (Fin 2097152))) (t := Finset.range 256)
    (fun k _ => Finset.mem_coe.2 (Finset.mem_range.2 (codeK_lt img k)))
  rw [Finset.card_univ, Fintype.card_fin] at h
  rw [h, Finset.sum_range]
  rfl

/-- The counts' mean is 8192. -/
theorem mean_bin (img : Pics.Idx → EReal) : mean (binR img) = 8192 := by
  unfold mean binR
  rw [← Nat.cast_sum, bin_sum]
  norm_num

/-- The counts of the codes of eight pictures vary. -/
theorem variance_bin (img : Pics.Idx → EReal) : 0 < variance (binR img) := by
  obtain ⟨v, hv, hne⟩ := uneven img
  refine variance_pos _ ⟨v, hv⟩ ?_
  rw [mean_bin]
  unfold binR
  exact_mod_cast hne

end Cert.Lbp

end
-- ==== Proof.KernelIdealScaled.lean ====
/-
  The kernel's final scaling over the extended reals, and the rows it is given.
-/
module

public import proofs.«01_k».proof.Proof.KernelIdealLaunch
public import proofs.«01_k».proof.Proof.KernelIdealCode
public import proofs.«01_k».proof.Proof.Stats

@[expose] public section

set_option maxRecDepth 16384

noncomputable section

namespace Cert.KernelIdealRun

open Cert.KernelIdeal Cert.KernelIdeal.Gen Cert.Lbp
open Idealize.ShloMosaic

/-- The scaled counts: the difference from the mean over the standard deviation. -/
theorem finBlk_apply (x : Vec Ideal S512x256 .f32) (c : Fin 256 → ℝ) (hx : ∀ v, ∑ r : Fin 512, x (ix2 r v) = ((c v : ℝ) : EReal))
    (hc : 0 < variance c) (j : Fin 256) :
    finBlk (F := Ideal) x (ix2 0 j) = (((c j - mean c) * (Real.sqrt (variance c))⁻¹ : ℝ) : EReal) := by
  unfold finBlk
  pointwise [k2_pay1]
  simp only [hx, Fin.sum_univ_one, ofBits_256, ofBits_255, mean_ideal, variance_ideal]
  rw [show (Scalar.rsqrt (F := Ideal) (φ := .f32) ((variance c : ℝ) : EReal) : EReal) = Ideal.rsqrt ((variance c : ℝ) : EReal) from rfl,
    Ideal.rsqrt_coe, if_neg (not_lt.2 hc.le), if_neg hc.ne', ← EReal.coe_sub, ← EReal.coe_mul]

/-- `k` ones added up. -/
theorem tally_ideal (k : ℕ) : (tally (F := Ideal) k : EReal) = ((k : ℝ) : EReal) := by
  induction k with
  | zero =>
    refine Ideal.ofBits_zero_f32.trans ?_
    simp
  | succ k ih =>
    rw [tally_succ]
    have h1 : (one (F := Ideal) : EReal) = ((1 : ℝ) : EReal) := Ideal.ofBits_one_f32
    show (tally (F := Ideal) k : EReal) + one (F := Ideal) = _
    rw [ih, h1, ← EReal.coe_add]
    push_cast
    rfl

/-- An entry of the rows over the extended reals is the number of hits of its tile and lane. -/
theorem rows_ideal (g : IVec S2097152 32) (r : Fin 512) (j : Fin 256) :
    shapeCast S512x256 (counts (F := Ideal) g) shapeCasts_S32x4096_S512x256 (ix2 r j)
      = (((hits (fun k => codeAt g (65536 * (r.val / 16) + k)) 4096 (256 * (r.val % 16) + j.val) : ℕ) : ℝ) : EReal) := by
  have hr := r.isLt
  have hj := j.isLt
  rw [shapeCast_apply _ shapeCasts_S32x4096_S512x256 (ix2 r j) (ix2 ⟨r.val / 16, by omega⟩ ⟨256 * (r.val % 16) + j.val, by omega⟩) ?_]
  · exact tally_ideal _
  · rw [Shape.rowMajor_val_two, Shape.rowMajor_val_two]
    show r.val / 16 * 4096 + (256 * (r.val % 16) + j.val) = r.val * 256 + j.val
    omega

/-- The 512 rows' entries for code `j`, together. -/
theorem sum_hits (img : FVec Ideal S8x3x512x512 .f32) (j : Fin 256) :
    ∑ r : Fin 512, hits (fun k => codeAt (flat (F := Ideal) img) (65536 * (r.val / 16) + k)) 4096 (256 * (r.val % 16) + j.val) = bin img j.val := by
  have hj := j.isLt
  unfold bin
  rw [Finset.card_eq_sum_card_fiberwise (f := fun k : Fin 2097152 => (⟨16 * (k.val / 65536) + k.val % 16, by omega⟩ : Fin 512)) (t := Finset.univ)
    (fun _ _ => Finset.mem_coe.2 (Finset.mem_univ _))]
  refine Finset.sum_congr rfl fun r _ => ?_
  have hr := r.isLt
  unfold hits
  refine Finset.card_bij' (fun t ht => ⟨65536 * (r.val / 16) + (16 * t + r.val % 16), by have := Finset.mem_range.1 (Finset.mem_filter.1 ht).1; omega⟩)
    (fun k _ => k.val % 65536 / 16) ?_ ?_ ?_ ?_
  · intro t ht
    obtain ⟨ht, h⟩ := Finset.mem_filter.1 ht
    have ht := Finset.mem_range.1 ht
    refine Finset.mem_filter.2 ⟨Finset.mem_filter.2 ⟨Finset.mem_univ _, ?_⟩, Fin.ext ?_⟩
    · rw [← codeAt_ideal]
      rw [show (256 * (r.val % 16) + j.val) / 256 = r.val % 16 by omega, show (256 * (r.val % 16) + j.val) % 256 = j.val by omega] at h
      exact h
    · show 16 * ((65536 * (r.val / 16) + (16 * t + r.val % 16)) / 65536) + (65536 * (r.val / 16) + (16 * t + r.val % 16)) % 16 = r.val
      omega
  · intro k hk
    obtain ⟨hk, h⟩ := Finset.mem_filter.1 hk
    have hk := (Finset.mem_filter.1 hk).2
    have h : 16 * (k.val / 65536) + k.val % 16 = r.val := congrArg Fin.val h
    have hkl := k.isLt
    refine Finset.mem_filter.2 ⟨Finset.mem_range.2 (by omega), ?_⟩
    rw [show (256 * (r.val % 16) + j.val) / 256 = r.val % 16 by omega, show (256 * (r.val % 16) + j.val) % 256 = j.val by omega]
    dsimp only
    rw [show 65536 * (r.val / 16) + (16 * (k.val % 65536 / 16) + r.val % 16) = k.val by omega, codeAt_ideal]
    exact hk
  · intro t ht
    have ht := Finset.mem_range.1 (Finset.mem_filter.1 ht).1
    show (65536 * (r.val / 16) + (16 * t + r.val % 16)) % 65536 / 16 = t
    omega
  · intro k hk
    have h : 16 * (k.val / 65536) + k.val % 16 = r.val := congrArg Fin.val (Finset.mem_filter.1 hk).2
    refine Fin.ext ?_
    show 65536 * (r.val / 16) + (16 * (k.val % 65536 / 16) + r.val % 16) = k.val
    omega

/-- The 512 rows' entries for a code add up to how often the code is met. -/
theorem rows_sum (img : FVec Ideal S8x3x512x512 .f32) (j : Fin 256) :
    ∑ r : Fin 512, shapeCast S512x256 (counts (F := Ideal) (flat (F := Ideal) img)) shapeCasts_S32x4096_S512x256 (ix2 r j) = ((binR img j : ℝ) : EReal) := by
  simp only [rows_ideal]
  rw [← coe_sum, ← Nat.cast_sum, sum_hits]
  rfl

end Cert.KernelIdealRun

end
-- ==== Proof.ReferenceHist.lean ====
/-
  The reference's histogram: a scatter of ones, read as a count.
-/
module

public import proofs.«01_k».proof.Proof.Gen.ReferenceIdeal.Run
public import proofs.«01_k».proof.Proof.Stats
public import Idealize.ShloMosaic.Lib.Routing.Ops
public import Idealize.ShloMosaic.Lib.Routing.OpsPair

@[expose] public section

set_option maxRecDepth 16384

noncomputable section

namespace Cert.Lbp

open Cert.ReferenceIdeal Cert.ReferenceIdeal.Gen
open Idealize.ShloMosaic

/-- Counting down the list of all `M` numbers is counting the set. -/
theorem countP_card (M : ℕ) (P : Fin M → Prop) [DecidablePred P] :
    (List.finRange M).countP (fun n => decide (P n)) = (Finset.univ.filter P).card := by
  rw [List.countP_eq_length_filter]
  rfl

/-- Adding one for each element of a list that is hit. -/
theorem fold_hits {ι : Type} (P : ι → Prop) [DecidablePred P] (l : List ι) (z : ℕ) :
    l.foldl (fun (a : BitVec 32) n => if P n then IntOp.addi a 1#32 else a) (BitVec.ofNat 32 z)
      = BitVec.ofNat 32 (z + l.countP fun n => decide (P n)) := by
  induction l generalizing z with
  | nil => rfl
  | cons n l ih =>
    rw [List.foldl_cons, List.countP_cons]
    by_cases h : P n
    · rw [if_pos h, show IntOp.addi (BitVec.ofNat 32 z) 1#32 = BitVec.ofNat 32 (z + 1) from (BitVec.ofNat_add z 1).symm, ih,
        if_pos (decide_eq_true h), Nat.add_right_comm, Nat.add_assoc]
    · rw [if_neg h, ih, if_neg (by simpa using h), Nat.add_zero]

/-- One of the codes lands in the bin it names. -/
theorem lands (idx : IVec S2097152x1 32) (k : Fin 2097152) (j : Fin 256) :
    scatter_S256_S2097152x1_S2097152_n_0_0_1.resultIdx? (ValueIdx.ix1 k) idx = some (ix1 j) ↔ (idx (ix2 k 0)).toInt = (j.val : Int) := by
  refine (Routing.resultIdx?_ix1 (N := 256) scatter_S256_S2097152x1_S2097152_n_0_0_1 (ValueIdx.ix1 k) idx j).trans ?_
  have hw : scatter_S256_S2097152x1_S2097152_n_0_0_1.window (ValueIdx.ix1 k) 0 = 0 := by
    unfold ScatterDims.window
    exact dif_neg (by decide)
  have hs : scatter_S256_S2097152x1_S2097152_n_0_0_1.start (ValueIdx.ix1 k) idx 0 = (idx (ix2 k 0)).toInt := by
    unfold ScatterDims.start
    rw [dif_pos (by decide)]
    refine congrArg (fun i => (idx i).toInt) (funext fun a => Fin.ext ?_)
    match a with
    | ⟨0, _⟩ => rfl
    | ⟨1, _⟩ => rfl
  rw [hw, hs]
  simp

/-- Ones scattered over zeros, at codes below 2³¹, count the codes. -/
theorem scatter_count (z : IVec S256 32) (hz : ∀ i, z i = 0#32) (idx : IVec S2097152x1 32) (u : IVec S2097152 32) (hu : ∀ i, u i = 1#32)
    (c : Fin 2097152 → ℕ) (hc : ∀ k, c k < 256) (hidx : ∀ k, idx (ix2 k 0) = BitVec.ofNat 32 (c k)) (j : Fin 256) :
    Host.scatter scatter_S256_S2097152x1_S2097152_n_0_0_1 IntOp.addi z idx u (ix1 j)
      = BitVec.ofNat 32 (Finset.univ.filter fun k => c k = j.val).card := by
  have hn : S2097152.numel = 2097152 := Routing.numel1 2097152
  have hiff : ∀ n : Fin S2097152.numel, scatter_S256_S2097152x1_S2097152_n_0_0_1.resultIdx? (S2097152.rowMajor.symm n) idx = some (ix1 j)
      ↔ c (n.cast hn) = j.val := fun n => by
    rw [show S2097152.rowMajor.symm n = ValueIdx.ix1 (n.cast hn) from Routing.symm1 (N := 2097152) n, lands, hidx,
      StableHlo.Predicate.toInt_ofNat_small _ (lt_trans (hc _) (by norm_num))]
    exact Nat.cast_inj
  rw [Routing.scatter_at, hz]
  simp only [hu, hiff]
  refine (fold_hits (fun n : Fin S2097152.numel => c (n.cast hn) = j.val) _ 0).trans ?_
  rw [Nat.zero_add, countP_card]
  exact congrArg (BitVec.ofNat 32) (Finset.card_equiv (finCongr hn) fun n => by simp)

end Cert.Lbp

end
-- ==== Proof.ReferenceCode.lean ====
/-
  The reference's codes over the extended reals.
-/
module

public import proofs.«01_k».proof.Proof.Gen.ReferenceIdeal.Run
public import proofs.«01_k».proof.Proof.ReferenceHist

@[expose] public section

set_option maxRecDepth 16384

noncomputable section

namespace Cert.Lbp

open Cert.ReferenceIdeal Cert.ReferenceIdeal.Gen Cert.ReferenceIdeal.Value
open Idealize.ShloMosaic

variable (V0 : Valuation τ sig (Elt Ideal)) (img : Pics.Idx → EReal)

/-- The reference's padded grey values are the padded picture. -/
theorem ref_pad (himg : V0 (Proc.devRef .tc main_arg0) = img) (b : Fin 8) (i j : Fin 514) :
    res_main_v5 (F := Ideal) V0 (ix4 b 0 i j) = pad0 img b i.val j.val := by
  unfold res_main_v5
  rw [himg]
  pointwise []
  unfold pad0
  by_cases h : (1 ≤ i.val ∧ i.val < 513) ∧ (1 ≤ j.val ∧ j.val < 513)
  · rw [dif_pos h]
    refine (dif_pos (show (1 ≤ i.val ∧ i.val - 1 < 512) ∧ 1 ≤ j.val ∧ j.val - 1 < 512 by omega)).trans ?_
    rw [Fin.sum_univ_three]
    unfold grey
    refine congr (congrArg _ (congr (congrArg _ ((mul_comm _ _).trans ?_)) ((mul_comm _ _).trans ?_))) ((mul_comm _ _).trans ?_) <;> rfl
  · rw [dif_neg h]
    refine (dif_neg (show ¬((1 ≤ i.val ∧ i.val - 1 < 512) ∧ 1 ≤ j.val ∧ j.val - 1 < 512) by omega)).trans ?_
    show (((0#32).toInt : ℝ) : EReal) = 0
    simp

/-- The weight of red is a real number. -/
theorem wR_real : wR = ((10032775 * (2 : ℝ) ^ (-25 : ℤ) : ℝ) : EReal) := by
  unfold wR
  simp [Ideal.ofBits, Ideal.ieee, -EReal.coe_mul]

/-- The weight of green is a real number. -/
theorem wG_real : wG = ((9848226 * (2 : ℝ) ^ (-24 : ℤ) : ℝ) : EReal) := by
  unfold wG
  simp [Ideal.ofBits, Ideal.ieee, -EReal.coe_mul]

/-- The weight of blue is a real number. -/
theorem wB_real : wB = ((15300821 * (2 : ℝ) ^ (-27 : ℤ) : ℝ) : EReal) := by
  unfold wB
  simp [Ideal.ofBits, Ideal.ieee, -EReal.coe_mul]

/-- Of real pictures the grey values, and the zeros around them, are real. -/
theorem pad0_real (hr : ∀ i, ∃ r : ℝ, img i = (r : EReal)) (b : Fin 8) (i j : ℕ) : ∃ r : ℝ, pad0 img b i j = (r : EReal) := by
  unfold pad0 grey
  split
  · obtain ⟨r0, h0⟩ := hr (ix4 b 0 ⟨i - 1, by omega⟩ ⟨j - 1, by omega⟩)
    obtain ⟨r1, h1⟩ := hr (ix4 b 1 ⟨i - 1, by omega⟩ ⟨j - 1, by omega⟩)
    obtain ⟨r2, h2⟩ := hr (ix4 b 2 ⟨i - 1, by omega⟩ ⟨j - 1, by omega⟩)
    rw [h0, h1, h2, wR_real, wG_real, wB_real]
    simp only [← EReal.coe_mul, ← EReal.coe_add]
    exact ⟨_, rfl⟩
  · exact ⟨0, EReal.coe_zero.symm⟩

/-- The offsets of the neighbour a bit stands for. -/
def nr : Fin 8 → Fin 3 := ![0, 1, 2, 2, 2, 1, 0, 0]
def nc : Fin 8 → Fin 3 := ![2, 2, 2, 1, 0, 0, 0, 1]

/-- The weights the reference is meant to be given: one at the neighbour, minus one at the pixel. -/
def table (c : Fin 8) (r s : Fin 3) : ℝ := if r = nr c ∧ s = nc c then 1 else if r = 1 ∧ s = 1 then -1 else 0

/-- With these weights a channel's sum is not negative exactly when the neighbour is not below the pixel. -/
theorem conv_nonneg (P : Fin 3 → Fin 3 → ℝ) (c : Fin 8) :
    0 ≤ P 0 0 * table c 0 0 + P 0 1 * table c 0 1 + P 0 2 * table c 0 2 + P 1 0 * table c 1 0 + P 1 1 * table c 1 1 + P 1 2 * table c 1 2
        + P 2 0 * table c 2 0 + P 2 1 * table c 2 1 + P 2 2 * table c 2 2
      ↔ P 1 1 ≤ P (nr c) (nc c) := by
  fin_cases c <;> simp [table, nr, nc]

/-- A channel of the reference's convolution, at a pixel. -/
theorem ref_conv (himg : V0 (Proc.devRef .tc main_arg0) = img) (hr : ∀ i, ∃ r : ℝ, img i = (r : EReal))
    (w : S8x1x3x3.Idx → EReal) (hw : V0 (Proc.devRef .tc main_arg1) = w) (hT : ∀ c r s, w (ix4 c 0 r s) = ((table c r s : ℝ) : EReal))
    (b c : Fin 8) (y x : Fin 512) :
    (0 : EReal) ≤ res_main_v78 (F := Ideal) V0 (ix4 b c y x) ↔ above img b y x (nr c).val (nc c).val := by
  choose P hP using fun r s : Fin 3 => pad0_real img hr b (y.val + r.val) (x.val + s.val)
  have hp : ∀ (r s : Fin 3) (i j : Fin 514), i.val = y.val + r.val → j.val = x.val + s.val →
      res_main_v5 (F := Ideal) V0 (ix4 b 0 i j) = ((P r s : ℝ) : EReal) := fun r s i j hi hj => by
    rw [ref_pad V0 img himg, hi, hj, hP]
  unfold above
  rw [hP, ← pad0_in, show pad0 img b (y.val + 1) (x.val + 1) = ((P 1 1 : ℝ) : EReal) from hP 1 1, EReal.coe_le_coe_iff, ← conv_nonneg, ← EReal.coe_nonneg]
  simp only [EReal.coe_add, EReal.coe_mul]
  unfold res_main_v78
  rw [hw]
  generalize res_main_v5 (F := Ideal) V0 = p at hp ⊢
  pointwise []
  simp only [hT]
  rw [hp 0 0 _ _ (by rfl) (by rfl), hp 0 1 _ _ (by rfl) (Nat.add_comm _ _), hp 0 2 _ _ (by rfl) (Nat.add_comm _ _),
    hp 1 0 _ _ (Nat.add_comm _ _) (by rfl), hp 1 1 _ _ (Nat.add_comm _ _) (Nat.add_comm _ _), hp 1 2 _ _ (Nat.add_comm _ _) (Nat.add_comm _ _),
    hp 2 0 _ _ (Nat.add_comm _ _) (by rfl), hp 2 1 _ _ (Nat.add_comm _ _) (Nat.add_comm _ _), hp 2 2 _ _ (Nat.add_comm _ _) (Nat.add_comm _ _)]

/-- A small natural number is truncated to its word. -/
theorem fptosi_nat (n : ℕ) (hn : n < 256) : Ideal.fptosi 32 ((n : ℝ) : EReal) = BitVec.ofNat 32 n := by
  change BitVec.ofInt 32 (max (-((2 ^ (32 - 1) : ℕ) : ℤ)) (min (((2 ^ (32 - 1) : ℕ) : ℤ) - 1) (if 0 ≤ (n : ℝ) then ⌊(n : ℝ)⌋ else ⌈(n : ℝ)⌉))) = _
  rw [if_pos (Nat.cast_nonneg n), Int.floor_natCast, min_eq_right (by norm_num; omega), max_eq_right (by norm_num), BitVec.ofInt_natCast]

/-- A small natural number is its own maximum with zero. -/
theorem maxsi_zero (n : ℕ) (hn : n < 256) : IntOp.maxsi 0#32 (BitVec.ofNat 32 n) = BitVec.ofNat 32 n := by
  unfold IntOp.maxsi
  have h : (BitVec.ofNat 32 n).slt 0#32 = false := by
    rw [BitVec.slt, StableHlo.Predicate.toInt_ofNat_small n (lt_trans hn (by norm_num))]
    simp
  simp [h]

/-- The reference's code of a pixel. -/
theorem ref_code (himg : V0 (Proc.devRef .tc main_arg0) = img) (hr : ∀ i, ∃ r : ℝ, img i = (r : EReal))
    (w : S8x1x3x3.Idx → EReal) (hw : V0 (Proc.devRef .tc main_arg1) = w) (hT : ∀ c r s, w (ix4 c 0 r s) = ((table c r s : ℝ) : EReal))
    (kw : S1x8x1x1.Idx → EReal) (hkw : V0 (Proc.devRef .tc main_arg2) = kw) (hK : ∀ c : Fin 8, kw (ix4 0 c 0 0) = (((2 ^ c.val : ℕ) : ℝ) : EReal))
    (k : Fin 2097152) :
    (res_main_v89 (F := Ideal) V0 (ix1 k) : BitVec 32) = BitVec.ofNat 32 (codeK img k) := by
  have hc := fun c : Fin 8 => ref_conv V0 img himg hr w hw hT (picOf k) c (rowOf k) (colOf k)
  unfold codeK
  rw [← maxsi_zero _ (code_lt _ _ _ _), ← fptosi_nat _ (code_lt _ _ _ _)]
  unfold res_main_v89
  rw [hkw]
  generalize res_main_v78 (F := Ideal) V0 = p at hc ⊢
  pointwise []
  simp only [id_eq]
  pointwise []
  refine congrArg (IntOp.maxsi 0#32) (congrArg (Ideal.fptosi 32) ?_)
  change (∑ x : Fin 8, (if (0 : EReal) ≤ (show EReal from p (ix4 (picOf k) x (rowOf k) (colOf k))) then (1 : EReal) else 0) * kw (ix4 0 x 0 0)) = _
  simp only [hc, hK]
  have e : ∀ x : Fin 8, (if above img (picOf k) (rowOf k) (colOf k) (nr x).val (nc x).val then (1 : EReal) else 0) * (((2 ^ x.val : ℕ) : ℝ) : EReal)
      = (((if above img (picOf k) (rowOf k) (colOf k) (nr x).val (nc x).val then 2 ^ x.val else 0 : ℕ) : ℝ) : EReal) := fun x => by
    split
    · rw [one_mul]
    · rw [zero_mul, Nat.cast_zero, EReal.coe_zero]
  rw [Finset.sum_congr rfl fun x _ => e x, ← coe_sum, ← Nat.cast_sum]
  refine congrArg (fun n : ℕ => ((n : ℝ) : EReal)) ?_
  rw [Fin.sum_univ_eight]
  rfl

/-- The reference's histogram, where its codes are the numbers `c`. -/
theorem ref_hist (c : Fin 2097152 → ℕ) (hc : ∀ k, c k < 256) (p : IVec S2097152 32) (hv : ∀ k, p (ix1 k) = BitVec.ofNat 32 (c k)) (j : Fin 256)
    (hp : res_main_v89 (F := Ideal) V0 = p) :
    (res_main_v99 (F := Ideal) V0 (ix2 0 j) : EReal) = (((Finset.univ.filter fun k => c k = j.val).card : ℝ) : EReal) := by
  unfold res_main_v99
  rw [hp]
  pointwise []
  refine (congrArg (FloatOps.sitofp .f32) (scatter_count _ (fun i => by rfl) _ _ (fun i => by rfl) c hc (fun k => ?_) j)).trans ?_
  rotate_left
  · change ((((BitVec.ofNat 32 (Finset.univ.filter fun k => c k = j.val).card).toInt : ℤ) : ℝ) : EReal) = _
    have hle : (Finset.univ.filter fun k => c k = j.val).card ≤ 2097152 := (Finset.card_le_univ _).trans (by rw [Fintype.card_fin])
    rw [StableHlo.Predicate.toInt_ofNat_small _ (lt_of_le_of_lt hle (by norm_num)), Int.cast_natCast]
  · pointwise []
    rw [hv]
    exact Routing.wrap_of_lt _ _ (by rw [BitVec.toNat_ofNat]; have := hc k; omega)

end Cert.Lbp

end
-- ==== Proof.ReferenceScaled.lean ====
/-
  The reference's final scaling over the extended reals.
-/
module

public import proofs.«01_k».proof.Proof.ReferenceCode

@[expose] public section

set_option maxRecDepth 16384

noncomputable section

namespace Cert.Lbp

open Cert.ReferenceIdeal Cert.ReferenceIdeal.Gen Cert.ReferenceIdeal.Value
open Idealize.ShloMosaic

variable (V0 : Valuation τ sig (Elt Ideal))

/-- What the reference returns: each count less the mean, over the sample standard deviation. -/
def refOut : FVec Ideal S1x256 .f32 :=
  Host.divf (subf (res_main_v99 V0) (broadcastInDim S1x256 ![0, 1] bcast_S1x1_S1x256_0_1 (Host.divf (broadcastInDim S1x1 ![0] bcast_S1_S1x1_0
      (Host.reduceAdd (res_main_v99 V0) (constant S_ .f32 0x00000000#32) reducesTo_S1x256_S1_d1 h_S_)) (broadcastInDim S1x1 ![] bcast_S_S1x1 (constant S_ .f32 0x43800000#32)))))
    (broadcastInDim S1x256 ![0, 1] bcast_S1x1_S1x256_0_1 (Host.sqrt (select (broadcastInDim S1x1 ![] bcast_S_S1x1
        (cmpf .ogt (res_main_call3_call0_v8 V0) (constant S_ .f32 0x00000000#32)))
      (Host.divf (broadcastInDim S1x1 ![0] bcast_S1_S1x1_0 (Host.reduceAdd (mulf (res_main_call3_call0_v5 V0) (res_main_call3_call0_v5 V0))
        (constant S_ .f32 0x00000000#32) reducesTo_S1x256_S1_d1 h_S_)) (broadcastInDim S1x1 ![] bcast_S_S1x1 (res_main_call3_call0_v8 V0)))
      (broadcastInDim S1x1 ![] bcast_S_S1x1 (id (constant S_ .f32 0x7FC00000#32))))))

/-- The divisor of the variance is 255. -/
theorem ref_divisor : (res_main_call3_call0_v8 (F := Ideal) V0 ix0 : EReal) = ((255 : ℝ) : EReal) := by
  unfold res_main_call3_call0_v8
  pointwise []
  change Ideal.ofBits FTy.f32 0x43800000#32 - ((((1#32).toInt : ℤ) : ℝ) : EReal) = _
  rw [ofBits_256, ← EReal.coe_sub]
  refine congrArg _ ?_
  rw [show (1#32).toInt = 1 from by decide]
  norm_num

/-- Where the counts are the reals `c` and not all alike, the reference's result is each count less the mean, over the deviation. -/
theorem refOut_apply (c : Fin 256 → ℝ) (p : S1x256.Idx → EReal) (hp : res_main_v99 (F := Ideal) V0 = p) (hx : ∀ v, p (ix2 0 v) = ((c v : ℝ) : EReal)) (hc : 0 < variance c) (j : Fin 256) :
    refOut V0 (ix2 0 j) = (((c j - mean c) * (Real.sqrt (variance c))⁻¹ : ℝ) : EReal) := by
  have h5 : ∀ v, (res_main_call3_call0_v5 (F := Ideal) V0 (ix2 0 v) : EReal) = ((c v : ℝ) : EReal) - ((mean c : ℝ) : EReal) := fun v => by
    unfold res_main_call3_call0_v5
    rw [hp]
    pointwise []
    simp only [hx, ofBits_256, mean_ideal]
  have h8 := ref_divisor V0
  unfold refOut
  rw [hp]
  generalize res_main_call3_call0_v5 (F := Ideal) V0 = q at h5 ⊢
  generalize res_main_call3_call0_v8 (F := Ideal) V0 = d at h8 ⊢
  pointwise []
  have hpos : (0 : EReal) < ((255 : ℝ) : EReal) := by rw [← EReal.coe_zero, EReal.coe_lt_coe_iff]; norm_num
  have hs : Real.sqrt (variance c) ≠ 0 := (Real.sqrt_pos.2 hc).ne'
  simp only [hx, h5, h8, ofBits_256, mean_ideal, if_pos hpos, variance_ideal]
  rw [Ideal.sqrt_coe, if_neg (not_lt.2 hc.le), Ideal.div_coe hs, ← EReal.coe_sub, ← EReal.coe_mul, one_div]

end Cert.Lbp

end
-- ==== Proof.Precondition.lean ====
/-
  What the precondition says: the pictures are real numbers, and the two arrays of weights are the table's.
-/
module

public import proofs.«01_k».proof.Pre_lbp_inputs
public import proofs.«01_k».proof.Proof.ReferenceCode
public import Idealize.ShloMosaic.Lib.ReduceAll

@[expose] public section

set_option maxRecDepth 16384

noncomputable section

namespace Cert.Lbp

open Cert.Pre_lbp_inputs
open Idealize.ShloMosaic

/-- The shape relations the precondition takes. -/
theorem preFacts : Cert.Pre_lbp_inputs.Facts :=
  ⟨by decide, by decide, by decide, by decide, by decide⟩

/-- Both of two words joined by `and` are 1 where the join is. -/
theorem and_one (x y : BitVec 1) (h : IntOp.andi x y = 1#1) : x = 1#1 ∧ y = 1#1 := IntOp.andi_eq_one.1 h

/-- A comparison for equality that answers 1 is an equality. -/
theorem oeq_one (x y : EReal) (h : (FloatOps.cmpf (F := Ideal) (φ := .f32) .oeq x y) = 1#1) : x = y := by
  change BitVec.ofBool (decide (x = y)) = 1#1 at h
  by_contra hn
  rw [decide_eq_false hn] at h
  exact absurd h (by decide)

/-- The pattern the precondition compares with is plus infinity. -/
theorem ofBits_inf : Ideal.ofBits .f32 0x7F800000#32 = ⊤ := by
  simp [Ideal.ofBits, Ideal.ieee, -EReal.coe_mul]

/-- A number whose magnitude is below infinity is real. -/
theorem real_of_abs (x : EReal) (h : BitVec.ofBool (decide ((FloatOps.absf (F := Ideal) (φ := .f32) x : EReal) < Ideal.ofBits FTy.f32 0x7F800000#32)) = 1#1) :
    ∃ r : ℝ, x = (r : EReal) := by
  rw [ofBits_inf] at h
  induction x using EReal.rec with
  | coe r => exact ⟨r, rfl⟩
  | bot =>
    change BitVec.ofBool (decide (max (⊥ : EReal) (-⊥) < ⊤)) = 1#1 at h
    simp at h
  | top =>
    change BitVec.ofBool (decide (max (⊤ : EReal) (-⊤) < ⊤)) = 1#1 at h
    simp at h

instance : Subsingleton S_.Idx := ⟨fun _ _ => funext fun a => a.elim0⟩

/-- The precondition's three parts: the pictures are real, and the two arrays hold the literal tables. -/
theorem pre_parts (a0 : FVec Ideal S8x3x512x512 .f32) (a1 : FVec Ideal S8x1x3x3 .f32) (a2 : FVec Ideal S1x8x1x1 .f32)
    (h : letI := preFacts; Cert.Pre_lbp_inputs.fn (F := Ideal) a0 a1 a2 = fun _ => 1#1) :
    (∀ i, ∃ r : ℝ, a0 i = (r : EReal)) ∧ (∀ i, a1 i = Ideal.ofBits .f32 (lit0 (S8x1x3x3.rowMajor i))) ∧ ∀ i, a2 i = Ideal.ofBits .f32 (lit1 (S1x8x1x1.rowMajor i)) := by
  letI := preFacts
  have h0 := congrFun h ix0
  unfold Cert.Pre_lbp_inputs.fn at h0
  obtain ⟨h01, h2⟩ := and_one _ _ h0
  obtain ⟨h0, h1⟩ := and_one _ _ h01
  refine ⟨fun i => ?_, fun i => ?_, fun i => ?_⟩
  · have e := Host.reduce_andi_all _ _ _ _ _ h0 i
    pointwise [] at e
    exact real_of_abs _ e
  · exact oeq_one _ _ (Host.reduce_andi_all _ _ _ _ _ h1 i)
  · exact oeq_one _ _ (Host.reduce_andi_all _ _ _ _ _ h2 i)

/-- The first literal table is one at the neighbour, minus one at the pixel, and zero elsewhere. -/
theorem lit0_table : ∀ (c : Fin 8) (r s : Fin 3), lit0 ⟨9 * c.val + 3 * r.val + s.val, by omega⟩
    = if r = nr c ∧ s = nc c then 0x3F800000#32 else if r = 1 ∧ s = 1 then 0xBF800000#32 else 0#32 := by
  decide

/-- The second literal table is the powers of two. -/
theorem lit1_table : ∀ c : Fin 8, Ideal.ofBits .f32 (lit1 c) = (((2 ^ c.val : ℕ) : ℝ) : EReal) := by
  intro c
  fin_cases c
  · change Ideal.ofBits .f32 0x3F800000#32 = (((2 ^ 0 : ℕ) : ℝ) : EReal)
    simp [Ideal.ofBits, Ideal.ieee, -EReal.coe_mul]; norm_num
  · change Ideal.ofBits .f32 0x40000000#32 = (((2 ^ 1 : ℕ) : ℝ) : EReal)
    simp [Ideal.ofBits, Ideal.ieee, -EReal.coe_mul]; norm_num
  · change Ideal.ofBits .f32 0x40800000#32 = (((2 ^ 2 : ℕ) : ℝ) : EReal)
    simp [Ideal.ofBits, Ideal.ieee, -EReal.coe_mul]; norm_num
  · change Ideal.ofBits .f32 0x41000000#32 = (((2 ^ 3 : ℕ) : ℝ) : EReal)
    simp [Ideal.ofBits, Ideal.ieee, -EReal.coe_mul]; norm_num
  · change Ideal.ofBits .f32 0x41800000#32 = (((2 ^ 4 : ℕ) : ℝ) : EReal)
    simp [Ideal.ofBits, Ideal.ieee, -EReal.coe_mul]; norm_num
  · change Ideal.ofBits .f32 0x42000000#32 = (((2 ^ 5 : ℕ) : ℝ) : EReal)
    simp [Ideal.ofBits, Ideal.ieee, -EReal.coe_mul]; norm_num
  · change Ideal.ofBits .f32 0x42800000#32 = (((2 ^ 6 : ℕ) : ℝ) : EReal)
    simp [Ideal.ofBits, Ideal.ieee, -EReal.coe_mul]; norm_num
  · change Ideal.ofBits .f32 0x43000000#32 = (((2 ^ 7 : ℕ) : ℝ) : EReal)
    simp [Ideal.ofBits, Ideal.ieee, -EReal.coe_mul]; norm_num

/-- The pattern of minus one is minus one. -/
theorem ofBits_neg_one : Ideal.ofBits .f32 0xBF800000#32 = ((-1 : ℝ) : EReal) := by
  simp [Ideal.ofBits, Ideal.ieee, -EReal.coe_mul]; norm_num

/-- The first weights, read as numbers. -/
theorem weight_table (c : Fin 8) (r s : Fin 3) : Ideal.ofBits .f32 (lit0 (S8x1x3x3.rowMajor (ix4 c 0 r s))) = ((table c r s : ℝ) : EReal) := by
  rw [show S8x1x3x3.rowMajor (ix4 c 0 r s) = (⟨9 * c.val + 3 * r.val + s.val, by omega⟩ : Fin 72) from Fin.ext (by
    rw [Shape.rowMajor_val_four]
    show ((c.val * 1 + 0) * 3 + r.val) * 3 + s.val = 9 * c.val + 3 * r.val + s.val
    omega)]
  rw [lit0_table]
  unfold table
  split_ifs
  · exact Ideal.ofBits_one_f32
  · exact ofBits_neg_one
  · exact Ideal.ofBits_zero_f32

/-- The second weights, read as numbers. -/
theorem power_table (c : Fin 8) : Ideal.ofBits .f32 (lit1 (S1x8x1x1.rowMajor (ix4 0 c 0 0))) = (((2 ^ c.val : ℕ) : ℝ) : EReal) := by
  rw [show S1x8x1x1.rowMajor (ix4 0 c 0 0) = c from Fin.ext (by
    rw [Shape.rowMajor_val_four]
    show ((0 * 8 + c.val) * 1 + 0) * 1 + 0 = c.val
    omega)]
  exact lit1_table c

end Cert.Lbp

end
-- ==== Proof.Algebraic.lean ====
/-
  Over the extended reals the kernel and the reference give the same result.
-/
module

public import proofs.«01_k».proof.Proof.Frames
public import proofs.«01_k».proof.Proof.KernelIdealScaled
public import proofs.«01_k».proof.Proof.ReferenceScaled
public import proofs.«01_k».proof.Proof.Precondition

@[expose] public section

set_option maxRecDepth 16384

noncomputable section

namespace Cert.Lbp

open Idealize.ShloMosaic Idealize.ShloMosaic.StableHlo Idealize.SL.Sem

/-- An array of one row of 256 is its entries. -/
theorem row_ext (p q : (⟨2, ![1, 256]⟩ : Shape).Idx → EReal) (h : ∀ j : Fin 256, p (ix2 0 j) = q (ix2 0 j)) : p = q := by
  funext i
  have e : i = ix2 (0 : Fin 1) (i 1) := by
    funext a
    match a with
    | ⟨0, _⟩ => exact Subsingleton.elim (α := Fin 1) _ _
    | ⟨1, _⟩ => rfl
  rw [e]
  exact h (i 1)

/-- On real pictures and the table's weights, the reference's result is the kernel's. -/
theorem refOut_eq (V0 : Valuation Cert.ReferenceIdeal.τ Cert.ReferenceIdeal.sig (Elt Ideal)) (img : FVec Ideal Cert.KernelIdeal.S8x3x512x512 .f32)
    (w : Cert.ReferenceIdeal.S8x1x3x3.Idx → EReal) (kw : Cert.ReferenceIdeal.S1x8x1x1.Idx → EReal)
    (himg : V0 (Proc.devRef .tc Cert.ReferenceIdeal.main_arg0) = img) (hw : V0 (Proc.devRef .tc Cert.ReferenceIdeal.main_arg1) = w)
    (hkw : V0 (Proc.devRef .tc Cert.ReferenceIdeal.main_arg2) = kw) (hr : ∀ i, ∃ r : ℝ, img i = (r : EReal))
    (hT : ∀ c r s, w (ix4 c 0 r s) = ((table c r s : ℝ) : EReal)) (hK : ∀ c : Fin 8, kw (ix4 0 c 0 0) = (((2 ^ c.val : ℕ) : ℝ) : EReal)) :
    refOut V0 = Cert.KernelIdealRun.finBlk (F := Ideal)
      (shapeCast Cert.KernelIdeal.S512x256 (Cert.KernelIdealRun.counts (F := Ideal) (Cert.KernelIdealRun.flat (F := Ideal) img)) Cert.KernelIdeal.Gen.shapeCasts_S32x4096_S512x256) := by
  refine row_ext _ _ fun j => ?_
  rw [refOut_apply V0 (binR img) _ rfl (fun v => ?_) (variance_bin img) j,
    Cert.KernelIdealRun.finBlk_apply _ (binR img) (fun v => Cert.KernelIdealRun.rows_sum img v) (variance_bin img) j]
  exact ref_hist V0 (codeK img) (codeK_lt img) _ (fun k => ref_code V0 img himg hr w hw hT kw hkw hK k) v rfl

/-- Over the extended reals, on real pictures and the table's weights, the kernel and the reference end with the same result and their arguments as they were. -/
theorem algebraic : Cert.algebraic_KernelIdeal_ReferenceIdeal_pre_lbp_inputs (hKernelIdeal := Cert.KernelIdeal.Gen.facts)
    (hReferenceIdeal := Cert.ReferenceIdeal.Gen.facts) (hPre_lbp_inputs := preFacts) := fun m g m' g' hpre hagree => by
  refine ⟨fun c => Cert.KernelIdealRun.finBlk (F := Ideal) (Cert.KernelIdealRun.rows m c), ?_, ?_⟩
  · exact (θ_run _ _ _).mono (fun _ h c => ⟨(h.1 c).2.2.2, (h.1 c).1, (h.1 c).2.1, (h.1 c).2.2.1⟩) (Cert.KernelIdealRun.run_main (F := Ideal) m g)
  · refine (θ_run _ _ _).mono (fun _ h c => ⟨(h c).1.trans ?_, (h c).2⟩) (Cert.ReferenceIdeal.Value.run (F := Ideal) m' g')
    obtain ⟨hr, h1, h2⟩ := pre_parts _ _ _ (hpre c)
    obtain ⟨e0, e1, e2⟩ := hagree c
    exact refOut_eq (launchContents m' c) _ _ _ e0 e1 e2 hr (fun k r s => (h1 _).trans (weight_table k r s)) (fun k => (h2 _).trans (power_table k))

end Cert.Lbp

end
-- ==== Proof.lean ====
module

public import proofs.«01_k».proof.Defs
public import proofs.«01_k».proof.Proof.Algebraic

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts, Cert.Lbp.preFacts,
  Cert.Lbp.frame_kernel, Cert.Lbp.frame_kernelIdeal, fun m g _ => Cert.Lbp.frame_kernelIdeal m g trivial,
  Cert.Lbp.frame_reference, fun m g _ => Cert.Lbp.frame_reference m g trivial, trivial, Cert.Lbp.algebraic⟩

end Cert.Proof

end
